-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "step" .f32 0x3DA28A29#32 ((5 / 63 : ℝ) : EReal)

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v132_0)) (v1 : (c : Dev Cert.KernelIdeal.nD) → Buf (Elt Ideal) ((c.tc : Thread Cert.KernelIdeal.nD Cert.KernelIdeal.τ).loc Cert.KernelIdeal.main_v132_1)) (v2 : (c : Dev Cert.KernelIdeal.nD) → Buf (Elt Ideal) ((c.tc : Thread Cert.KernelIdeal.nD Cert.KernelIdeal.τ).loc Cert.KernelIdeal.main_v132_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132_0) = v0 c
          ∧ r.2.mem ((c.tc : Thread Cert.KernelIdeal.nD Cert.KernelIdeal.τ).loc Cert.KernelIdeal.main_v132_1) = v1 c
          ∧ r.2.mem ((c.tc : Thread Cert.KernelIdeal.nD Cert.KernelIdeal.τ).loc Cert.KernelIdeal.main_v132_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_v244) = v1 c
          ∧ r.2.mem ((c.tc : Thread Cert.ReferenceIdeal.nD Cert.ReferenceIdeal.τ).loc Cert.ReferenceIdeal.main_v240) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S200x3x3 : Shape := ⟨3, ![200, 3, 3]⟩
abbrev S10000x3 : Shape := ⟨2, ![10000, 3]⟩
abbrev S10000x128 : Shape := ⟨2, ![10000, 128]⟩
abbrev S200 : Shape := ⟨1, ![200]⟩
abbrev S128x128 : Shape := ⟨2, ![128, 128]⟩
abbrev S64x128 : Shape := ⟨2, ![64, 128]⟩
abbrev S3x256x128 : Shape := ⟨3, ![3, 256, 128]⟩
abbrev S3x128 : Shape := ⟨2, ![3, 128]⟩
abbrev S3x128x128 : Shape := ⟨3, ![3, 128, 128]⟩
abbrev S128x1 : Shape := ⟨2, ![128, 1]⟩
abbrev S200x50x3 : Shape := ⟨3, ![200, 50, 3]⟩
abbrev S200x50x1x3 : Shape := ⟨4, ![200, 50, 1, 3]⟩
abbrev S200x1x50x3 : Shape := ⟨4, ![200, 1, 50, 3]⟩
abbrev S200x50x50x3 : Shape := ⟨4, ![200, 50, 50, 3]⟩
abbrev S_ : Shape := ⟨0, ![]⟩
abbrev S200x50x50 : Shape := ⟨3, ![200, 50, 50]⟩
abbrev S50x50 : Shape := ⟨2, ![50, 50]⟩
abbrev S1x50x50 : Shape := ⟨3, ![1, 50, 50]⟩
abbrev S200x50x33 : Shape := ⟨3, ![200, 50, 33]⟩
abbrev S200x50x1 : Shape := ⟨3, ![200, 50, 1]⟩
abbrev S200x50 : Shape := ⟨2, ![200, 50]⟩
abbrev S200x1x3 : Shape := ⟨3, ![200, 1, 3]⟩
abbrev S200x3 : Shape := ⟨2, ![200, 3]⟩
abbrev S200x1 : Shape := ⟨2, ![200, 1]⟩

class Facts : Prop where
  shapeCasts_S10000x3_S200x50x3 : S10000x3.ShapeCasts S200x50x3
  bcast_S200x50x3_S200x50x1x3_0_1_3 : S200x50x3.BroadcastsInDim S200x50x1x3 (![0, 1, 3] : Fin 3 → Fin S200x50x1x3.rank)
  bcast_S200x50x3_S200x1x50x3_0_2_3 : S200x50x3.BroadcastsInDim S200x1x50x3 (![0, 2, 3] : Fin 3 → Fin S200x1x50x3.rank)
  bcast_S200x50x1x3_S200x50x50x3_0_1_2_3 : S200x50x1x3.BroadcastsInDim S200x50x50x3 (![0, 1, 2, 3] : Fin 4 → Fin S200x50x50x3.rank)
  bcast_S200x1x50x3_S200x50x50x3_0_1_2_3 : S200x1x50x3.BroadcastsInDim S200x50x50x3 (![0, 1, 2, 3] : Fin 4 → Fin S200x50x50x3.rank)
  reducesTo_S200x50x50x3_S200x50x50_d3 : S200x50x50x3.ReducesTo [3] S200x50x50
  h_S_ : 0 < S_.numel
  bcast_S_S200x50x50 : S_.BroadcastsInDim S200x50x50 (![] : Fin 0 → Fin S200x50x50.rank)
  bcast_S_S50x50 : S_.BroadcastsInDim S50x50 (![] : Fin 0 → Fin S50x50.rank)
  bcast_S50x50_S1x50x50_1_2 : S50x50.BroadcastsInDim S1x50x50 (![1, 2] : Fin 2 → Fin S1x50x50.rank)
  bcast_S_S1x50x50 : S_.BroadcastsInDim S1x50x50 (![] : Fin 0 → Fin S1x50x50.rank)
  bcast_S1x50x50_S200x50x50_0_1_2 : S1x50x50.BroadcastsInDim S200x50x50 (![0, 1, 2] : Fin 3 → Fin S200x50x50.rank)
  sliceFits_S200x50x50_S200x50x33 : S200x50x50.Slices (fun _ => 0) S200x50x33
  slices_S200x50x33_S200x50x1_0_0_31 : S200x50x33.Slices ![0, 0, 31] S200x50x1
  shapeCasts_S200x50x1_S200x50 : S200x50x1.ShapeCasts S200x50
  slices_S200x50x33_S200x50x1_0_0_32 : S200x50x33.Slices ![0, 0, 32] S200x50x1
  bcast_S_S200x50 : S_.BroadcastsInDim S200x50 (![] : Fin 0 → Fin S200x50.rank)
  bcast_S_S200x3x3 : S_.BroadcastsInDim S200x3x3 (![] : Fin 0 → Fin S200x3x3.rank)
  slices_S200x3x3_S200x1x3_0_0_0 : S200x3x3.Slices ![0, 0, 0] S200x1x3
  shapeCasts_S200x1x3_S200x3 : S200x1x3.ShapeCasts S200x3
  slices_S200x3x3_S200x1x3_0_1_0 : S200x3x3.Slices ![0, 1, 0] S200x1x3
  slices_S200x3x3_S200x1x3_0_2_0 : S200x3x3.Slices ![0, 2, 0] S200x1x3
  slices_S200x3_S200x1_0_0 : S200x3.Slices ![0, 0] S200x1
  shapeCasts_S200x1_S200 : S200x1.ShapeCasts S200
  slices_S200x3_S200x1_0_1 : S200x3.Slices ![0, 1] S200x1
  slices_S200x3_S200x1_0_2 : S200x3.Slices ![0, 2] S200x1
  bcast_S_S200 : S_.BroadcastsInDim S200 (![] : Fin 0 → Fin S200.rank)
  dot_S200x50x50x3_S200x3x3_S200x50x50x3_3_1_12_2_0_0_wf : DotDims.WF S200x50x50x3 S200x3x3 S200x50x50x3 [3] [1] [1, 2] [2] [0] [0]

variable [Facts]

def dot_S200x50x50x3_S200x3x3_S200x50x50x3_3_1_12_2_0_0 : DotDims S200x50x50x3 S200x3x3 S200x50x50x3 where
  lhsContracting := [3]
  rhsContracting := [1]
  lhsNonContracting := [1, 2]
  rhsNonContracting := [2]
  lhsBatch := [0]
  rhsBatch := [0]
  wf := dot_S200x50x50x3_S200x3x3_S200x50x50x3_3_1_12_2_0_0_wf
def fn_part4 {F : FTy → Type} [FloatOps F] (main_v36 : IVec S200x50 1) (main_v39 : IVec S200x3x3 1) (main_v74 : FVec F S200 .f32) (main_v76 : FVec F S200 .f32) (main_v87 : FVec F S200 .f32) : IVec S200x50 1 × IVec S200x3x3 1 × IVec S200 1 :=
  let main_v88 : FVec F S200 .f32 := mulf main_v76 main_v87
  let main_v89 : FVec F S200 .f32 := addf main_v74 main_v88
  let main_cst_4 : FVec F S_ .f32 := constant S_ .f32 0x00000000#32
  let main_v90 : FVec F S200 .f32 := broadcastInDim S200 ![] bcast_S_S200 main_cst_4
  let main_v91 : IVec S200 1 := cmpf .une main_v89 main_v90
  (main_v36, main_v39, main_v91)

def fn_part3 {F : FTy → Type} [FloatOps F] (main_v36 : IVec S200x50 1) (main_v39 : IVec S200x3x3 1) (main_v41 : FVec F S200x3 .f32) (main_v43 : FVec F S200x3 .f32) (main_v45 : FVec F S200x3 .f32) (main_v59 : FVec F S200 .f32) (main_v61 : FVec F S200 .f32) (main_v63 : FVec F S200 .f32) : IVec S200x50 1 × IVec S200x3x3 1 × IVec S200 1 :=
  let main_v64 : FVec F S200x1 .f32 := (extractStridedSlice S200x1 ![0, 2] · slices_S200x3_S200x1_0_2) main_v45
  let main_v65 : FVec F S200 .f32 := shapeCast S200 main_v64 shapeCasts_S200x1_S200
  let main_v66 : FVec F S200 .f32 := mulf main_v63 main_v65
  let main_v67 : FVec F S200x1 .f32 := (extractStridedSlice S200x1 ![0, 2] · slices_S200x3_S200x1_0_2) main_v43
  let main_v68 : FVec F S200 .f32 := shapeCast S200 main_v67 shapeCasts_S200x1_S200
  let main_v69 : FVec F S200x1 .f32 := (extractStridedSlice S200x1 ![0, 0] · slices_S200x3_S200x1_0_0) main_v45
  let main_v70 : FVec F S200 .f32 := shapeCast S200 main_v69 shapeCasts_S200x1_S200
  let main_v71 : FVec F S200 .f32 := mulf main_v68 main_v70
  let main_v72 : FVec F S200 .f32 := subf main_v66 main_v71
  let main_v73 : FVec F S200 .f32 := mulf main_v61 main_v72
  let main_v74 : FVec F S200 .f32 := subf main_v59 main_v73
  let main_v75 : FVec F S200x1 .f32 := (extractStridedSlice S200x1 ![0, 2] · slices_S200x3_S200x1_0_2) main_v41
  let main_v76 : FVec F S200 .f32 := shapeCast S200 main_v75 shapeCasts_S200x1_S200
  let main_v77 : FVec F S200x1 .f32 := (extractStridedSlice S200x1 ![0, 0] · slices_S200x3_S200x1_0_0) main_v43
  let main_v78 : FVec F S200 .f32 := shapeCast S200 main_v77 shapeCasts_S200x1_S200
  let main_v79 : FVec F S200x1 .f32 := (extractStridedSlice S200x1 ![0, 1] · slices_S200x3_S200x1_0_1) main_v45
  let main_v80 : FVec F S200 .f32 := shapeCast S200 main_v79 shapeCasts_S200x1_S200
  let main_v81 : FVec F S200 .f32 := mulf main_v78 main_v80
  let main_v82 : FVec F S200x1 .f32 := (extractStridedSlice S200x1 ![0, 1] · slices_S200x3_S200x1_0_1) main_v43
  let main_v83 : FVec F S200 .f32 := shapeCast S200 main_v82 shapeCasts_S200x1_S200
  let main_v84 : FVec F S200x1 .f32 := (extractStridedSlice S200x1 ![0, 0] · slices_S200x3_S200x1_0_0) main_v45
  let main_v85 : FVec F S200 .f32 := shapeCast S200 main_v84 shapeCasts_S200x1_S200
  let main_v86 : FVec F S200 .f32 := mulf main_v83 main_v85
  let main_v87 : FVec F S200 .f32 := subf main_v81 main_v86
  fn_part4 (F := F) main_v36 main_v39 main_v74 main_v76 main_v87

def fn_part2 {F : FTy → Type} [FloatOps F] (main_arg0 : FVec F S200x3x3 .f32) (main_v36 : IVec S200x50 1) (main_v39 : IVec S200x3x3 1) : IVec S200x50 1 × IVec S200x3x3 1 × IVec S200 1 :=
  let main_v40 : FVec F S200x1x3 .f32 := (extractStridedSlice S200x1x3 ![0, 0, 0] · slices_S200x3x3_S200x1x3_0_0_0) main_arg0
  let main_v41 : FVec F S200x3 .f32 := shapeCast S200x3 main_v40 shapeCasts_S200x1x3_S200x3
  let main_v42 : FVec F S200x1x3 .f32 := (extractStridedSlice S200x1x3 ![0, 1, 0] · slices_S200x3x3_S200x1x3_0_1_0) main_arg0
  let main_v43 : FVec F S200x3 .f32 := shapeCast S200x3 main_v42 shapeCasts_S200x1x3_S200x3
  let main_v44 : FVec F S200x1x3 .f32 := (extractStridedSlice S200x1x3 ![0, 2, 0] · slices_S200x3x3_S200x1x3_0_2_0) main_arg0
  let main_v45 : FVec F S200x3 .f32 := shapeCast S200x3 main_v44 shapeCasts_S200x1x3_S200x3
  let main_v46 : FVec F S200x1 .f32 := (extractStridedSlice S200x1 ![0, 0] · slices_S200x3_S200x1_0_0) main_v41
  let main_v47 : FVec F S200 .f32 := shapeCast S200 main_v46 shapeCasts_S200x1_S200
  let main_v48 : FVec F S200x1 .f32 := (extractStridedSlice S200x1 ![0, 1] · slices_S200x3_S200x1_0_1) main_v43
  let main_v49 : FVec F S200 .f32 := shapeCast S200 main_v48 shapeCasts_S200x1_S200
  let main_v50 : FVec F S200x1 .f32 := (extractStridedSlice S200x1 ![0, 2] · slices_S200x3_S200x1_0_2) main_v45
  let main_v51 : FVec F S200 .f32 := shapeCast S200 main_v50 shapeCasts_S200x1_S200
  let main_v52 : FVec F S200 .f32 := mulf main_v49 main_v51
  let main_v53 : FVec F S200x1 .f32 := (extractStridedSlice S200x1 ![0, 2] · slices_S200x3_S200x1_0_2) main_v43
  let main_v54 : FVec F S200 .f32 := shapeCast S200 main_v53 shapeCasts_S200x1_S200
  let main_v55 : FVec F S200x1 .f32 := (extractStridedSlice S200x1 ![0, 1] · slices_S200x3_S200x1_0_1) main_v45
  let main_v56 : FVec F S200 .f32 := shapeCast S200 main_v55 shapeCasts_S200x1_S200
  let main_v57 : FVec F S200 .f32 := mulf main_v54 main_v56
  let main_v58 : FVec F S200 .f32 := subf main_v52 main_v57
  let main_v59 : FVec F S200 .f32 := mulf main_v47 main_v58
  let main_v60 : FVec F S200x1 .f32 := (extractStridedSlice S200x1 ![0, 1] · slices_S200x3_S200x1_0_1) main_v41
  let main_v61 : FVec F S200 .f32 := shapeCast S200 main_v60 shapeCasts_S200x1_S200
  let main_v62 : FVec F S200x1 .f32 := (extractStridedSlice S200x1 ![0, 0] · slices_S200x3_S200x1_0_0) main_v43
  let main_v63 : FVec F S200 .f32 := shapeCast S200 main_v62 shapeCasts_S200x1_S200
  fn_part3 (F := F) main_v36 main_v39 main_v41 main_v43 main_v45 main_v59 main_v61 main_v63

def fn_part1 {F : FTy → Type} [FloatOps F] (main_arg0 : FVec F S200x3x3 .f32) (main_v13 : FVec F S200x50x50 .f32) (main_v20 : FVec F S1x50x50 .f32) : IVec S200x50 1 × IVec S200x3x3 1 × IVec S200 1 :=
  let main_cst_1 : FVec F S_ .f32 := constant S_ .f32 0x49742400#32
  let main_v21 : FVec F S1x50x50 .f32 := broadcastInDim S1x50x50 ![] bcast_S_S1x50x50 main_cst_1
  let main_v22 : FVec F S1x50x50 .f32 := mulf main_v20 main_v21
  let main_v23 : FVec F S200x50x50 .f32 := broadcastInDim S200x50x50 ![0, 1, 2] bcast_S1x50x50_S200x50x50_0_1_2 main_v22
  let main_v24 : FVec F S200x50x50 .f32 := addf main_v13 main_v23
  let main_v25 : FVec F S200x50x50 .f32 := Host.negf main_v24
  let main_values : FVec F S200x50x33 .f32 := (fun x => (Host.topK S200x50x33 2 (FloatOps.cmpfTotal .gt) x sliceFits_S200x50x50_S200x50x33).1) main_v25
  let main_indices : IVec S200x50x33 32 := (fun x => (Host.topK S200x50x33 2 (FloatOps.cmpfTotal .gt) x sliceFits_S200x50x50_S200x50x33).2) main_v25
  let main_v26 : FVec F S200x50x33 .f32 := Host.negf main_values
  let main_v27 : FVec F S200x50x1 .f32 := (extractStridedSlice S200x50x1 ![0, 0, 31] · slices_S200x50x33_S200x50x1_0_0_31) main_v26
  let main_v28 : FVec F S200x50 .f32 := shapeCast S200x50 main_v27 shapeCasts_S200x50x1_S200x50
  let main_v29 : FVec F S200x50x1 .f32 := (extractStridedSlice S200x50x1 ![0, 0, 32] · slices_S200x50x33_S200x50x1_0_0_32) main_v26
  let main_v30 : FVec F S200x50 .f32 := shapeCast S200x50 main_v29 shapeCasts_S200x50x1_S200x50
  let main_v31 : IVec S200x50 1 := cmpf .olt main_v28 main_v30
  let main_v32 : FVec F S200x50x1 .f32 := (extractStridedSlice S200x50x1 ![0, 0, 31] · slices_S200x50x33_S200x50x1_0_0_31) main_v26
  let main_v33 : FVec F S200x50 .f32 := shapeCast S200x50 main_v32 shapeCasts_S200x50x1_S200x50
  let main_cst_2 : FVec F S_ .f32 := constant S_ .f32 0x4E6E6B28#32
  let main_v34 : FVec F S200x50 .f32 := broadcastInDim S200x50 ![] bcast_S_S200x50 main_cst_2
  let main_v35 : IVec S200x50 1 := cmpf .olt main_v33 main_v34
  let main_v36 : IVec S200x50 1 := andi main_v31 main_v35
  let main_v37 : FVec F S200x3x3 .f32 := Host.absf main_arg0
  let main_cst_3 : FVec F S_ .f32 := constant S_ .f32 0x7F800000#32
  let main_v38 : FVec F S200x3x3 .f32 := broadcastInDim S200x3x3 ![] bcast_S_S200x3x3 main_cst_3
  let main_v39 : IVec S200x3x3 1 := cmpf .olt main_v37 main_v38
  fn_part2 (F := F) main_arg0 main_v36 main_v39

def fn {F : FTy → Type} [FloatOps F] (main_arg0 : FVec F S200x3x3 .f32) (main_arg1 : FVec F S10000x3 .f32) (main_arg2 : FVec F S10000x128 .f32) (main_arg3 : IVec S200 32) (main_arg4 : FVec F S128x128 .f32) (main_arg5 : FVec F S64x128 .f32) (main_arg6 : FVec F S3x256x128 .f32) (main_arg7 : FVec F S3x128 .f32) (main_arg8 : FVec F S3x128x128 .f32) (main_arg9 : FVec F S128x1 .f32) (main_arg10 : FVec F S128x1 .f32) : IVec S200x50 1 × IVec S200x3x3 1 × IVec S200 1 :=
  let main_v0 : FVec F S200x50x3 .f32 := shapeCast S200x50x3 main_arg1 shapeCasts_S10000x3_S200x50x3
  let main_v1 : FVec F S200x50x1x3 .f32 := broadcastInDim S200x50x1x3 ![0, 1, 3] bcast_S200x50x3_S200x50x1x3_0_1_3 main_v0
  let main_v2 : FVec F S200x1x50x3 .f32 := broadcastInDim S200x1x50x3 ![0, 2, 3] bcast_S200x50x3_S200x1x50x3_0_2_3 main_v0
  let main_v3 : FVec F S200x50x50x3 .f32 := broadcastInDim S200x50x50x3 ![0, 1, 2, 3] bcast_S200x50x1x3_S200x50x50x3_0_1_2_3 main_v1
  let main_v4 : FVec F S200x50x50x3 .f32 := broadcastInDim S200x50x50x3 ![0, 1, 2, 3] bcast_S200x1x50x3_S200x50x50x3_0_1_2_3 main_v2
  let main_v5 : FVec F S200x50x50x3 .f32 := subf main_v3 main_v4
  let main_v6 : FVec F S200x50x50x3 .f32 := Host.roundeven main_v5
  let main_v7 : FVec F S200x50x50x3 .f32 := subf main_v5 main_v6
  let main_v8 : FVec F S200x50x50x3 .f32 := (fun l r => Host.dotGeneral dot_S200x50x50x3_S200x3x3_S200x50x50x3_3_1_12_2_0_0 none l r) main_v7 main_arg0
  let main_v9 : FVec F S200x50x50x3 .f32 := mulf main_v8 main_v8
  let main_cst : FVec F S_ .f32 := constant S_ .f32 0x00000000#32
  let main_v10 : FVec F S200x50x50 .f32 := (fun x v => Host.reduceAdd x v reducesTo_S200x50x50x3_S200x50x50_d3 h_S_) main_v9 main_cst
  let main_cst_0 : FVec F S_ .f32 := constant S_ .f32 0x2B8CBCCC#32
  let main_v11 : FVec F S200x50x50 .f32 := broadcastInDim S200x50x50 ![] bcast_S_S200x50x50 main_cst_0
  let main_v12 : FVec F S200x50x50 .f32 := addf main_v10 main_v11
  let main_v13 : FVec F S200x50x50 .f32 := Host.sqrt main_v12
  let main_v14 : IVec S50x50 32 := iotaInDim S50x50 32 0
  let main_v15 : IVec S50x50 32 := iotaInDim S50x50 32 1
  let main_c : IVec S_ 32 := constantI S_ 32 0#32
  let main_v16 : IVec S50x50 32 := broadcastInDim S50x50 ![] bcast_S_S50x50 main_c
  let main_v17 : IVec S50x50 32 := addi main_v14 main_v16
  let main_v18 : IVec S50x50 1 := cmpi .eq main_v17 main_v15
  let main_v19 : FVec F S50x50 .f32 := uitofp .f32 main_v18
  let main_v20 : FVec F S1x50x50 .f32 := broadcastInDim S1x50x50 ![1, 2] bcast_S50x50_S1x50x50_1_2 main_v19
  fn_part1 (F := F) main_arg0 main_v13 main_v20
-- ==== Kernel.lean ====
abbrev S200x3x3 : Shape := ⟨3, ![200, 3, 3]⟩
abbrev S10000x3 : Shape := ⟨2, ![10000, 3]⟩
abbrev S10000x128 : Shape := ⟨2, ![10000, 128]⟩
abbrev S200 : Shape := ⟨1, ![200]⟩
abbrev S128x128 : Shape := ⟨2, ![128, 128]⟩
abbrev S64x128 : Shape := ⟨2, ![64, 128]⟩
abbrev S3x256x128 : Shape := ⟨3, ![3, 256, 128]⟩
abbrev S3x128 : Shape := ⟨2, ![3, 128]⟩
abbrev S3x128x128 : Shape := ⟨3, ![3, 128, 128]⟩
abbrev S128x1 : Shape := ⟨2, ![128, 1]⟩
abbrev S200x50x3 : Shape := ⟨3, ![200, 50, 3]⟩
abbrev S200x50x128 : Shape := ⟨3, ![200, 50, 128]⟩
abbrev S200x1x1 : Shape := ⟨3, ![200, 1, 1]⟩
abbrev S200x1 : Shape := ⟨2, ![200, 1]⟩
abbrev S200x3 : Shape := ⟨2, ![200, 3]⟩
abbrev S200x1x3 : Shape := ⟨3, ![200, 1, 3]⟩
abbrev S128x2 : Shape := ⟨2, ![128, 2]⟩
abbrev S3x200x50x3 : Shape := ⟨4, ![3, 200, 50, 3]⟩
abbrev S1x3x3 : Shape := ⟨3, ![1, 3, 3]⟩
abbrev S1x50x3 : Shape := ⟨3, ![1, 50, 3]⟩
abbrev S1x50x128 : Shape := ⟨3, ![1, 50, 128]⟩
abbrev S3x1x50x3 : Shape := ⟨4, ![3, 1, 50, 3]⟩
abbrev S50x3 : Shape := ⟨2, ![50, 3]⟩
abbrev S3x3 : Shape := ⟨2, ![3, 3]⟩
abbrev S6x3 : Shape := ⟨2, ![6, 3]⟩
abbrev S56x3 : Shape := ⟨2, ![56, 3]⟩
abbrev S50x1x3 : Shape := ⟨3, ![50, 1, 3]⟩
abbrev S1x56x3 : Shape := ⟨3, ![1, 56, 3]⟩
abbrev S50x56x3 : Shape := ⟨3, ![50, 56, 3]⟩
abbrev S2800x3 : Shape := ⟨2, ![2800, 3]⟩
abbrev S50x3x56 : Shape := ⟨3, ![50, 3, 56]⟩
abbrev S50x1x56 : Shape := ⟨3, ![50, 1, 56]⟩
abbrev S50x56 : Shape := ⟨2, ![50, 56]⟩
abbrev S50x56x1 : Shape := ⟨3, ![50, 56, 1]⟩
abbrev S50x56x56 : Shape := ⟨3, ![50, 56, 56]⟩
abbrev S1x1x64 : Shape := ⟨3, ![1, 1, 64]⟩
abbrev S50x56x64 : Shape := ⟨3, ![50, 56, 64]⟩
abbrev S2800x64 : Shape := ⟨2, ![2800, 64]⟩
abbrev S2800x128 : Shape := ⟨2, ![2800, 128]⟩
abbrev S50x128 : Shape := ⟨2, ![50, 128]⟩
abbrev S1x256x128 : Shape := ⟨3, ![1, 256, 128]⟩
abbrev S256x128 : Shape := ⟨2, ![256, 128]⟩
abbrev S1x128 : Shape := ⟨2, ![1, 128]⟩
abbrev S6x128 : Shape := ⟨2, ![6, 128]⟩
abbrev S56x128 : Shape := ⟨2, ![56, 128]⟩
abbrev S50x56x128 : Shape := ⟨3, ![50, 56, 128]⟩
abbrev S1x56x128 : Shape := ⟨3, ![1, 56, 128]⟩
abbrev S1x128x128 : Shape := ⟨3, ![1, 128, 128]⟩
abbrev S2800x2 : Shape := ⟨2, ![2800, 2]⟩
abbrev S50x56x2 : Shape := ⟨3, ![50, 56, 2]⟩
abbrev S50x2x56 : Shape := ⟨3, ![50, 2, 56]⟩
abbrev S50 : Shape := ⟨1, ![50]⟩
abbrev S50x1 : Shape := ⟨2, ![50, 1]⟩
abbrev S1x1x50x3 : Shape := ⟨4, ![1, 1, 50, 3]⟩
abbrev S1x50x56 : Shape := ⟨3, ![1, 50, 56]⟩
abbrev S1 : Shape := ⟨1, ![1]⟩
abbrev S1x1x1 : Shape := ⟨3, ![1, 1, 1]⟩
abbrev S1x1 : Shape := ⟨2, ![1, 1]⟩
abbrev S1x3 : Shape := ⟨2, ![1, 3]⟩

abbrev nBuf : Space → Nat
  | .hbm => 146
  | .vmem => 20
  | .smem => 0
  | _ => 0

abbrev hbmTy0_0 (i : Nat) : BufTy := match i % 128 with
  | 0 => ⟨S200x3x3, .f32⟩
  | 1 => ⟨S10000x3, .f32⟩
  | 2 => ⟨S10000x128, .f32⟩
  | 3 => ⟨S200, .i32⟩
  | 4 => ⟨S128x128, .f32⟩
  | 5 => ⟨S64x128, .f32⟩
  | 6 => ⟨S3x256x128, .f32⟩
  | 7 => ⟨S3x128, .f32⟩
  | 8 => ⟨S3x128x128, .f32⟩
  | 9 => ⟨S128x1, .f32⟩
  | 10 => ⟨S128x1, .f32⟩
  | 11 => ⟨S200x50x3, .f32⟩
  | 12 => ⟨S200x50x128, .f32⟩
  | 13 => ⟨S200x1x1, .f32⟩
  | 14 => ⟨S200, .f32⟩
  | 15 => ⟨S200x1x1, .f32⟩
  | 16 => ⟨S200, .f32⟩
  | 17 => ⟨S200, .f32⟩
  | 18 => ⟨S200x1x1, .f32⟩
  | 19 => ⟨S200, .f32⟩
  | 20 => ⟨S200x1x1, .f32⟩
  | 21 => ⟨S200, .f32⟩
  | 22 => ⟨S200, .f32⟩
  | 23 => ⟨S200, .f32⟩
  | 24 => ⟨S200x1x1, .f32⟩
  | 25 => ⟨S200, .f32⟩
  | 26 => ⟨S200x1x1, .f32⟩
  | 27 => ⟨S200, .f32⟩
  | 28 => ⟨S200, .f32⟩
  | 29 => ⟨S200x1x1, .f32⟩
  | 30 => ⟨S200, .f32⟩
  | 31 => ⟨S200x1x1, .f32⟩
  | 32 => ⟨S200, .f32⟩
  | 33 => ⟨S200, .f32⟩
  | 34 => ⟨S200, .f32⟩
  | 35 => ⟨S200x1x1, .f32⟩
  | 36 => ⟨S200, .f32⟩
  | 37 => ⟨S200x1x1, .f32⟩
  | 38 => ⟨S200, .f32⟩
  | 39 => ⟨S200, .f32⟩
  | 40 => ⟨S200x1x1, .f32⟩
  | 41 => ⟨S200, .f32⟩
  | 42 => ⟨S200x1x1, .f32⟩
  | 43 => ⟨S200, .f32⟩
  | 44 => ⟨S200, .f32⟩
  | 45 => ⟨S200, .f32⟩
  | 46 => ⟨S200x1x1, .f32⟩
  | 47 => ⟨S200, .f32⟩
  | 48 => ⟨S200x1x1, .f32⟩
  | 49 => ⟨S200, .f32⟩
  | 50 => ⟨S200, .f32⟩
  | 51 => ⟨S200x1x1, .f32⟩
  | 52 => ⟨S200, .f32⟩
  | 53 => ⟨S200x1x1, .f32⟩
  | 54 => ⟨S200, .f32⟩
  | 55 => ⟨S200, .f32⟩
  | 56 => ⟨S200, .f32⟩
  | 57 => ⟨S200x1x1, .f32⟩
  | 58 => ⟨S200, .f32⟩
  | 59 => ⟨S200x1x1, .f32⟩
  | 60 => ⟨S200, .f32⟩
  | 61 => ⟨S200, .f32⟩
  | 62 => ⟨S200x1x1, .f32⟩
  | 63 => ⟨S200, .f32⟩
  | 64 => ⟨S200x1x1, .f32⟩
  | 65 => ⟨S200, .f32⟩
  | 66 => ⟨S200, .f32⟩
  | 67 => ⟨S200, .f32⟩
  | 68 => ⟨S200x1x1, .f32⟩
  | 69 => ⟨S200, .f32⟩
  | 70 => ⟨S200x1x1, .f32⟩
  | 71 => ⟨S200, .f32⟩
  | 72 => ⟨S200, .f32⟩
  | 73 => ⟨S200x1x1, .f32⟩
  | 74 => ⟨S200, .f32⟩
  | 75 => ⟨S200x1x1, .f32⟩
  | 76 => ⟨S200, .f32⟩
  | 77 => ⟨S200, .f32⟩
  | 78 => ⟨S200, .f32⟩
  | 79 => ⟨S200x1x1, .f32⟩
  | 80 => ⟨S200, .f32⟩
  | 81 => ⟨S200x1x1, .f32⟩
  | 82 => ⟨S200, .f32⟩
  | 83 => ⟨S200, .f32⟩
  | 84 => ⟨S200x1x1, .f32⟩
  | 85 => ⟨S200, .f32⟩
  | 86 => ⟨S200x1x1, .f32⟩
  | 87 => ⟨S200, .f32⟩
  | 88 => ⟨S200, .f32⟩
  | 89 => ⟨S200, .f32⟩
  | 90 => ⟨S200x1x1, .f32⟩
  | 91 => ⟨S200, .f32⟩
  | 92 => ⟨S200x1x1, .f32⟩
  | 93 => ⟨S200, .f32⟩
  | 94 => ⟨S200, .f32⟩
  | 95 => ⟨S200x1x1, .f32⟩
  | 96 => ⟨S200, .f32⟩
  | 97 => ⟨S200x1x1, .f32⟩
  | 98 => ⟨S200, .f32⟩
  | 99 => ⟨S200, .f32⟩
  | 100 => ⟨S200, .f32⟩
  | 101 => ⟨S200x1x1, .f32⟩
  | 102 => ⟨S200, .f32⟩
  | 103 => ⟨S200x1x1, .f32⟩
  | 104 => ⟨S200, .f32⟩
  | 105 => ⟨S200, .f32⟩
  | 106 => ⟨S200x1x1, .f32⟩
  | 107 => ⟨S200, .f32⟩
  | 108 => ⟨S200x1x1, .f32⟩
  | 109 => ⟨S200, .f32⟩
  | 110 => ⟨S200, .f32⟩
  | 111 => ⟨S200, .f32⟩
  | 112 => ⟨S200x1x1, .f32⟩
  | 113 => ⟨S200, .f32⟩
  | 114 => ⟨S200, .f32⟩
  | 115 => ⟨S200x1x1, .f32⟩
  | 116 => ⟨S200, .f32⟩
  | 117 => ⟨S200, .f32⟩
  | 118 => ⟨S200, .f32⟩
  | 119 => ⟨S200x1x1, .f32⟩
  | 120 => ⟨S200, .f32⟩
  | 121 => ⟨S200, .f32⟩
  | 122 => ⟨S200, .f32⟩
  | 123 => ⟨S200x1, .f32⟩
  | 124 => ⟨S200x1, .f32⟩
  | 125 => ⟨S200x1, .f32⟩
  | 126 => ⟨S200x3, .f32⟩
  | 127 => ⟨S200x1, .f32⟩
  | _ => ⟨S200x3x3, .f32⟩

abbrev hbmTy0_1 (i : Nat) : BufTy := match i % 128 with
  | 0 => ⟨S200x1, .f32⟩
  | 1 => ⟨S200x1, .f32⟩
  | 2 => ⟨S200x3, .f32⟩
  | 3 => ⟨S200x1, .f32⟩
  | 4 => ⟨S200x1, .f32⟩
  | 5 => ⟨S200x1, .f32⟩
  | 6 => ⟨S200x3, .f32⟩
  | 7 => ⟨S200x1x3, .f32⟩
  | 8 => ⟨S200x1x3, .f32⟩
  | 9 => ⟨S200x1x3, .f32⟩
  | 10 => ⟨S200x3x3, .f32⟩
  | 11 => ⟨S200x1x1, .f32⟩
  | 12 => ⟨S200x3x3, .f32⟩
  | 13 => ⟨S200x3x3, .f32⟩
  | 14 => ⟨S128x2, .f32⟩
  | 15 => ⟨S200x50x3, .f32⟩
  | 16 => ⟨S3x200x50x3, .f32⟩
  | 17 => ⟨S200x3x3, .f32⟩
  | _ => ⟨S200x3x3, .f32⟩

abbrev hbmTy (i : Nat) : BufTy := match i / 128 with
  | 0 => hbmTy0_0 i
  | 1 => hbmTy0_1 i
  | _ => ⟨S200x3x3, .f32⟩

abbrev bufTy : (tb : Table) → Fin (tcTables nBuf tb) → BufTy
  | .hbm, ⟨i, _⟩ => hbmTy i
  | .local _ .vmem, ⟨0, _⟩ => ⟨S1x3x3, .f32⟩
  | .local _ .vmem, ⟨1, _⟩ => ⟨S1x3x3, .f32⟩
  | .local _ .vmem, ⟨2, _⟩ => ⟨S1x3x3, .f32⟩
  | .local _ .vmem, ⟨3, _⟩ => ⟨S1x3x3, .f32⟩
  | .local _ .vmem, ⟨4, _⟩ => ⟨S1x50x3, .f32⟩
  | .local _ .vmem, ⟨5, _⟩ => ⟨S1x50x3, .f32⟩
  | .local _ .vmem, ⟨6, _⟩ => ⟨S1x50x128, .f32⟩
  | .local _ .vmem, ⟨7, _⟩ => ⟨S1x50x128, .f32⟩
  | .local _ .vmem, ⟨8, _⟩ => ⟨S128x128, .f32⟩
  | .local _ .vmem, ⟨9, _⟩ => ⟨S64x128, .f32⟩
  | .local _ .vmem, ⟨10, _⟩ => ⟨S3x256x128, .f32⟩
  | .local _ .vmem, ⟨11, _⟩ => ⟨S3x128, .f32⟩
  | .local _ .vmem, ⟨12, _⟩ => ⟨S3x128x128, .f32⟩
  | .local _ .vmem, ⟨13, _⟩ => ⟨S128x2, .f32⟩
  | .local _ .vmem, ⟨14, _⟩ => ⟨S1x50x3, .f32⟩
  | .local _ .vmem, ⟨15, _⟩ => ⟨S1x50x3, .f32⟩
  | .local _ .vmem, ⟨16, _⟩ => ⟨S3x1x50x3, .f32⟩
  | .local _ .vmem, ⟨17, _⟩ => ⟨S3x1x50x3, .f32⟩
  | .local _ .vmem, ⟨18, _⟩ => ⟨S1x3x3, .f32⟩
  | .local _ .vmem, ⟨19, _⟩ => ⟨S1x3x3, .f32⟩
  | _, _ => ⟨S200x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132_0 : Ref sig .tc := ⟨.hbm, 143, rfl⟩
abbrev main_v132_1 : Ref sig .tc := ⟨.hbm, 144, rfl⟩
abbrev main_v132_2 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![200], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x50x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x50x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x50x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3x1x50x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x3x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "step" => some ((5 / 63 : ℝ) : EReal)
  | _ => none
-- ==== ReferenceIdeal.lean ====
abbrev S200x3x3 : Shape := ⟨3, ![200, 3, 3]⟩
abbrev S10000x3 : Shape := ⟨2, ![10000, 3]⟩
abbrev S10000x128 : Shape := ⟨2, ![10000, 128]⟩
abbrev S200 : Shape := ⟨1, ![200]⟩
abbrev S128x128 : Shape := ⟨2, ![128, 128]⟩
abbrev S64x128 : Shape := ⟨2, ![64, 128]⟩
abbrev S3x256x128 : Shape := ⟨3, ![3, 256, 128]⟩
abbrev S3x128 : Shape := ⟨2, ![3, 128]⟩
abbrev S3x128x128 : Shape := ⟨3, ![3, 128, 128]⟩
abbrev S128x1 : Shape := ⟨2, ![128, 1]⟩
abbrev S200x50x3 : Shape := ⟨3, ![200, 50, 3]⟩
abbrev S200x50x128 : Shape := ⟨3, ![200, 50, 128]⟩
abbrev S200x50x1x3 : Shape := ⟨4, ![200, 50, 1, 3]⟩
abbrev S200x1x50x3 : Shape := ⟨4, ![200, 1, 50, 3]⟩
abbrev S200x50x50x3 : Shape := ⟨4, ![200, 50, 50, 3]⟩
abbrev S_ : Shape := ⟨0, ![]⟩
abbrev S200x50x50 : Shape := ⟨3, ![200, 50, 50]⟩
abbrev S50x50 : Shape := ⟨2, ![50, 50]⟩
abbrev S1x50x50 : Shape := ⟨3, ![1, 50, 50]⟩
abbrev S200x50x32 : Shape := ⟨3, ![200, 50, 32]⟩
abbrev S200x50x32x1 : Shape := ⟨4, ![200, 50, 32, 1]⟩
abbrev S200x50x32x3 : Shape := ⟨4, ![200, 50, 32, 3]⟩
abbrev S63 : Shape := ⟨1, ![63]⟩
abbrev S1 : Shape := ⟨1, ![1]⟩
abbrev S64 : Shape := ⟨1, ![64]⟩
abbrev S1x1x1x64 : Shape := ⟨4, ![1, 1, 1, 64]⟩
abbrev S200x50x32x64 : Shape := ⟨4, ![200, 50, 32, 64]⟩
abbrev S200x50x32x128 : Shape := ⟨4, ![200, 50, 32, 128]⟩
abbrev S3x3 : Shape := ⟨2, ![3, 3]⟩
abbrev S200x1x3 : Shape := ⟨3, ![200, 1, 3]⟩
abbrev S200x3 : Shape := ⟨2, ![200, 3]⟩
abbrev S200x6 : Shape := ⟨2, ![200, 6]⟩
abbrev S200x1 : Shape := ⟨2, ![200, 1]⟩
abbrev S200x50x32x256 : Shape := ⟨4, ![200, 50, 32, 256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S1x1x1x128 : Shape := ⟨4, ![1, 1, 1, 128]⟩
abbrev S1x128x128 : Shape := ⟨3, ![1, 128, 128]⟩
abbrev S1x200x50x3 : Shape := ⟨4, ![1, 200, 50, 3]⟩
abbrev S3x200x50x3 : Shape := ⟨4, ![3, 200, 50, 3]⟩

abbrev nBuf : Space → Nat
  | .hbm => 343
  | .vmem => 0
  | .smem => 0
  | _ => 0

abbrev hbmTy0_0 (i : Nat) : BufTy := match i % 128 with
  | 0 => ⟨S200x3x3, .f32⟩
  | 1 => ⟨S10000x3, .f32⟩
  | 2 => ⟨S10000x128, .f32⟩
  | 3 => ⟨S200, .i32⟩
  | 4 => ⟨S128x128, .f32⟩
  | 5 => ⟨S64x128, .f32⟩
  | 6 => ⟨S3x256x128, .f32⟩
  | 7 => ⟨S3x128, .f32⟩
  | 8 => ⟨S3x128x128, .f32⟩
  | 9 => ⟨S128x1, .f32⟩
  | 10 => ⟨S128x1, .f32⟩
  | 11 => ⟨S200x50x3, .f32⟩
  | 12 => ⟨S200x50x128, .f32⟩
  | 13 => ⟨S200x50x1x3, .f32⟩
  | 14 => ⟨S200x1x50x3, .f32⟩
  | 15 => ⟨S200x50x50x3, .f32⟩
  | 16 => ⟨S200x50x50x3, .f32⟩
  | 17 => ⟨S200x50x50x3, .f32⟩
  | 18 => ⟨S200x50x50x3, .f32⟩
  | 19 => ⟨S200x50x50x3, .f32⟩
  | 20 => ⟨S200x50x50x3, .f32⟩
  | 21 => ⟨S200x50x50x3, .f32⟩
  | 22 => ⟨S_, .f32⟩
  | 23 => ⟨S200x50x50, .f32⟩
  | 24 => ⟨S_, .f32⟩
  | 25 => ⟨S200x50x50, .f32⟩
  | 26 => ⟨S200x50x50, .f32⟩
  | 27 => ⟨S200x50x50, .f32⟩
  | 28 => ⟨S50x50, .i32⟩
  | 29 => ⟨S50x50, .i32⟩
  | 30 => ⟨S_, .i32⟩
  | 31 => ⟨S50x50, .i32⟩
  | 32 => ⟨S50x50, .i32⟩
  | 33 => ⟨S50x50, .i1⟩
  | 34 => ⟨S50x50, .f32⟩
  | 35 => ⟨S1x50x50, .f32⟩
  | 36 => ⟨S_, .f32⟩
  | 37 => ⟨S1x50x50, .f32⟩
  | 38 => ⟨S1x50x50, .f32⟩
  | 39 => ⟨S200x50x50, .f32⟩
  | 40 => ⟨S200x50x50, .f32⟩
  | 41 => ⟨S200x50x50, .f32⟩
  | 42 => ⟨S200x50x32, .f32⟩
  | 43 => ⟨S200x50x32, .i32⟩
  | 44 => ⟨S200x50x32, .f32⟩
  | 45 => ⟨S200x50x32x1, .i32⟩
  | 46 => ⟨S_, .i32⟩
  | 47 => ⟨S200x50x32x1, .i32⟩
  | 48 => ⟨S200x50x32x1, .i1⟩
  | 49 => ⟨S_, .i32⟩
  | 50 => ⟨S200x50x32x1, .i32⟩
  | 51 => ⟨S200x50x32x1, .i32⟩
  | 52 => ⟨S200x50x32x1, .i32⟩
  | 53 => ⟨S200x50x32x3, .f32⟩
  | 54 => ⟨S200x50x32x1, .f32⟩
  | 55 => ⟨S_, .f32⟩
  | 56 => ⟨S200x50x32x1, .f32⟩
  | 57 => ⟨S200x50x32x1, .f32⟩
  | 58 => ⟨S200x50x32x3, .f32⟩
  | 59 => ⟨S200x50x32x3, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S63, .f32⟩
  | 68 => ⟨S_, .f32⟩
  | 69 => ⟨S63, .f32⟩
  | 70 => ⟨S63, .f32⟩
  | 71 => ⟨S1, .f32⟩
  | 72 => ⟨S_, .f32⟩
  | 73 => ⟨S63, .f32⟩
  | 74 => ⟨S63, .f32⟩
  | 75 => ⟨S63, .f32⟩
  | 76 => ⟨S63, .f32⟩
  | 77 => ⟨S1, .f32⟩
  | 78 => ⟨S63, .f32⟩
  | 79 => ⟨S63, .f32⟩
  | 80 => ⟨S63, .f32⟩
  | 81 => ⟨S1, .f32⟩
  | 82 => ⟨S64, .f32⟩
  | 83 => ⟨S200x50x32x1, .f32⟩
  | 84 => ⟨S1x1x1x64, .f32⟩
  | 85 => ⟨S200x50x32x64, .f32⟩
  | 86 => ⟨S200x50x32x64, .f32⟩
  | 87 => ⟨S200x50x32x64, .f32⟩
  | 88 => ⟨S200x50x32x64, .f32⟩
  | 89 => ⟨S_, .f32⟩
  | 90 => ⟨S200x50x32x64, .f32⟩
  | 91 => ⟨S200x50x32x64, .f32⟩
  | 92 => ⟨S200x50x32x64, .f32⟩
  | 93 => ⟨S200x50x32x128, .f32⟩
  | 94 => ⟨S200x50x32x128, .f32⟩
  | 95 => ⟨S200x50x32x128, .f32⟩
  | 96 => ⟨S_, .f32⟩
  | 97 => ⟨S200x50x32x128, .f32⟩
  | 98 => ⟨S200x50x32x128, .f32⟩
  | 99 => ⟨S_, .f32⟩
  | 100 => ⟨S200x50x32x128, .f32⟩
  | 101 => ⟨S200x50x32x128, .f32⟩
  | 102 => ⟨S200x50x32x128, .f32⟩
  | 103 => ⟨S200x50x128, .f32⟩
  | 104 => ⟨S3x3, .i32⟩
  | 105 => ⟨S3x3, .i32⟩
  | 106 => ⟨S_, .i32⟩
  | 107 => ⟨S3x3, .i32⟩
  | 108 => ⟨S3x3, .i32⟩
  | 109 => ⟨S3x3, .i1⟩
  | 110 => ⟨S3x3, .f32⟩
  | 111 => ⟨S200x3x3, .f32⟩
  | 112 => ⟨S200x1x3, .f32⟩
  | 113 => ⟨S200x3, .f32⟩
  | 114 => ⟨S200x1x3, .f32⟩
  | 115 => ⟨S200x3, .f32⟩
  | 116 => ⟨S200x6, .f32⟩
  | 117 => ⟨S200x1x3, .f32⟩
  | 118 => ⟨S200x3, .f32⟩
  | 119 => ⟨S200x1x3, .f32⟩
  | 120 => ⟨S200x3, .f32⟩
  | 121 => ⟨S200x6, .f32⟩
  | 122 => ⟨S200x1x3, .f32⟩
  | 123 => ⟨S200x3, .f32⟩
  | 124 => ⟨S200x1x3, .f32⟩
  | 125 => ⟨S200x3, .f32⟩
  | 126 => ⟨S200x6, .f32⟩
  | 127 => ⟨S200x1, .f32⟩
  | _ => ⟨S200x3x3, .f32⟩

abbrev hbmTy0_1 (i : Nat) : BufTy := match i % 128 with
  | 0 => ⟨S200, .f32⟩
  | 1 => ⟨S200, .f32⟩
  | 2 => ⟨S200x1, .f32⟩
  | 3 => ⟨S200, .f32⟩
  | 4 => ⟨S200, .f32⟩
  | 5 => ⟨S200, .i1⟩
  | 6 => ⟨S200x1, .i1⟩
  | 7 => ⟨S200x6, .i1⟩
  | 8 => ⟨S200x6, .f32⟩
  | 9 => ⟨S200x6, .i1⟩
  | 10 => ⟨S200x6, .f32⟩
  | 11 => ⟨S200x1, .f32⟩
  | 12 => ⟨S200, .f32⟩
  | 13 => ⟨S200, .f32⟩
  | 14 => ⟨S200x1, .f32⟩
  | 15 => ⟨S200, .f32⟩
  | 16 => ⟨S200, .f32⟩
  | 17 => ⟨S200, .i1⟩
  | 18 => ⟨S200x1, .i1⟩
  | 19 => ⟨S200x6, .i1⟩
  | 20 => ⟨S200x6, .f32⟩
  | 21 => ⟨S200x6, .i1⟩
  | 22 => ⟨S200x6, .f32⟩
  | 23 => ⟨S200x1, .f32⟩
  | 24 => ⟨S200x6, .f32⟩
  | 25 => ⟨S200x6, .f32⟩
  | 26 => ⟨S200x1, .f32⟩
  | 27 => ⟨S200x6, .f32⟩
  | 28 => ⟨S200x6, .f32⟩
  | 29 => ⟨S200x6, .f32⟩
  | 30 => ⟨S200x1, .f32⟩
  | 31 => ⟨S200x6, .f32⟩
  | 32 => ⟨S200x6, .f32⟩
  | 33 => ⟨S200x6, .f32⟩
  | 34 => ⟨S200x1, .f32⟩
  | 35 => ⟨S200, .f32⟩
  | 36 => ⟨S200, .f32⟩
  | 37 => ⟨S200x1, .f32⟩
  | 38 => ⟨S200, .f32⟩
  | 39 => ⟨S200, .f32⟩
  | 40 => ⟨S200, .i1⟩
  | 41 => ⟨S200x1, .i1⟩
  | 42 => ⟨S200x6, .i1⟩
  | 43 => ⟨S200x6, .f32⟩
  | 44 => ⟨S200x6, .i1⟩
  | 45 => ⟨S200x6, .f32⟩
  | 46 => ⟨S200x1, .f32⟩
  | 47 => ⟨S200x6, .f32⟩
  | 48 => ⟨S200x6, .f32⟩
  | 49 => ⟨S200x1, .f32⟩
  | 50 => ⟨S200x6, .f32⟩
  | 51 => ⟨S200x6, .f32⟩
  | 52 => ⟨S200x6, .f32⟩
  | 53 => ⟨S200x1, .f32⟩
  | 54 => ⟨S200x6, .f32⟩
  | 55 => ⟨S200x6, .f32⟩
  | 56 => ⟨S200x6, .f32⟩
  | 57 => ⟨S200x1, .f32⟩
  | 58 => ⟨S200x6, .f32⟩
  | 59 => ⟨S200x6, .f32⟩
  | 60 => ⟨S200x1, .f32⟩
  | 61 => ⟨S200x6, .f32⟩
  | 62 => ⟨S200x6, .f32⟩
  | 63 => ⟨S200x6, .f32⟩
  | 64 => ⟨S200x1, .f32⟩
  | 65 => ⟨S200x6, .f32⟩
  | 66 => ⟨S200x6, .f32⟩
  | 67 => ⟨S200x6, .f32⟩
  | 68 => ⟨S200x3, .f32⟩
  | 69 => ⟨S200x3, .f32⟩
  | 70 => ⟨S200x3, .f32⟩
  | 71 => ⟨S200x1x3, .f32⟩
  | 72 => ⟨S200x1x3, .f32⟩
  | 73 => ⟨S200x1x3, .f32⟩
  | 74 => ⟨S200x3x3, .f32⟩
  | 75 => ⟨S_, .f32⟩
  | 76 => ⟨S200x3x3, .f32⟩
  | 77 => ⟨S200x50x32x1, .i32⟩
  | 78 => ⟨S200x50x32x128, .f32⟩
  | 79 => ⟨S200x50x32x256, .f32⟩
  | 80 => ⟨S1x256x128, .f32⟩
  | 81 => ⟨S256x128, .f32⟩
  | 82 => ⟨S200x50x32x128, .f32⟩
  | 83 => ⟨S1x128, .f32⟩
  | 84 => ⟨S128, .f32⟩
  | 85 => ⟨S1x1x1x128, .f32⟩
  | 86 => ⟨S200x50x32x128, .f32⟩
  | 87 => ⟨S200x50x32x128, .f32⟩
  | 88 => ⟨S200x50x32x128, .f32⟩
  | 89 => ⟨S200x50x32x128, .f32⟩
  | 90 => ⟨S_, .f32⟩
  | 91 => ⟨S200x50x32x128, .f32⟩
  | 92 => ⟨S200x50x32x128, .f32⟩
  | 93 => ⟨S_, .f32⟩
  | 94 => ⟨S200x50x32x128, .f32⟩
  | 95 => ⟨S200x50x32x128, .f32⟩
  | 96 => ⟨S200x50x32x128, .f32⟩
  | 97 => ⟨S_, .f32⟩
  | 98 => ⟨S200x50x128, .f32⟩
  | 99 => ⟨S1x128x128, .f32⟩
  | 100 => ⟨S128x128, .f32⟩
  | 101 => ⟨S200x50x128, .f32⟩
  | 102 => ⟨S200x50x128, .f32⟩
  | 103 => ⟨S200x50x128, .f32⟩
  | 104 => ⟨S200x50x32x1, .f32⟩
  | 105 => ⟨S200x50x32, .f32⟩
  | 106 => ⟨S200x50x32x1, .f32⟩
  | 107 => ⟨S200x50x32x3, .f32⟩
  | 108 => ⟨S200x50x32x3, .f32⟩
  | 109 => ⟨S_, .f32⟩
  | 110 => ⟨S200x50x3, .f32⟩
  | 111 => ⟨S200x50x3, .f32⟩
  | 112 => ⟨S200x50x3, .f32⟩
  | 113 => ⟨S200x50x32x1, .f32⟩
  | 114 => ⟨S200x50x32, .f32⟩
  | 115 => ⟨S200x50x32x1, .f32⟩
  | 116 => ⟨S200x50x32x3, .f32⟩
  | 117 => ⟨S200x50x32x3, .f32⟩
  | 118 => ⟨S200x3x3, .f32⟩
  | 119 => ⟨S200x3x3, .f32⟩
  | 120 => ⟨S200x50x32x1, .i32⟩
  | 121 => ⟨S200x50x32x128, .f32⟩
  | 122 => ⟨S200x50x32x256, .f32⟩
  | 123 => ⟨S1x256x128, .f32⟩
  | 124 => ⟨S256x128, .f32⟩
  | 125 => ⟨S200x50x32x128, .f32⟩
  | 126 => ⟨S1x128, .f32⟩
  | 127 => ⟨S128, .f32⟩
  | _ => ⟨S200x3x3, .f32⟩

abbrev hbmTy0_2 (i : Nat) : BufTy := match i % 128 with
  | 0 => ⟨S1x1x1x128, .f32⟩
  | 1 => ⟨S200x50x32x128, .f32⟩
  | 2 => ⟨S200x50x32x128, .f32⟩
  | 3 => ⟨S200x50x32x128, .f32⟩
  | 4 => ⟨S200x50x32x128, .f32⟩
  | 5 => ⟨S_, .f32⟩
  | 6 => ⟨S200x50x32x128, .f32⟩
  | 7 => ⟨S200x50x32x128, .f32⟩
  | 8 => ⟨S_, .f32⟩
  | 9 => ⟨S200x50x32x128, .f32⟩
  | 10 => ⟨S200x50x32x128, .f32⟩
  | 11 => ⟨S200x50x32x128, .f32⟩
  | 12 => ⟨S_, .f32⟩
  | 13 => ⟨S200x50x128, .f32⟩
  | 14 => ⟨S1x128x128, .f32⟩
  | 15 => ⟨S128x128, .f32⟩
  | 16 => ⟨S200x50x128, .f32⟩
  | 17 => ⟨S200x50x128, .f32⟩
  | 18 => ⟨S200x50x128, .f32⟩
  | 19 => ⟨S200x50x32x1, .f32⟩
  | 20 => ⟨S200x50x32, .f32⟩
  | 21 => ⟨S200x50x32x1, .f32⟩
  | 22 => ⟨S200x50x32x3, .f32⟩
  | 23 => ⟨S200x50x32x3, .f32⟩
  | 24 => ⟨S_, .f32⟩
  | 25 => ⟨S200x50x3, .f32⟩
  | 26 => ⟨S200x50x3, .f32⟩
  | 27 => ⟨S200x50x3, .f32⟩
  | 28 => ⟨S200x50x32x1, .f32⟩
  | 29 => ⟨S200x50x32, .f32⟩
  | 30 => ⟨S200x50x32x1, .f32⟩
  | 31 => ⟨S200x50x32x3, .f32⟩
  | 32 => ⟨S200x50x32x3, .f32⟩
  | 33 => ⟨S200x3x3, .f32⟩
  | 34 => ⟨S200x3x3, .f32⟩
  | 35 => ⟨S200x50x32x1, .i32⟩
  | 36 => ⟨S200x50x32x128, .f32⟩
  | 37 => ⟨S200x50x32x256, .f32⟩
  | 38 => ⟨S1x256x128, .f32⟩
  | 39 => ⟨S256x128, .f32⟩
  | 40 => ⟨S200x50x32x128, .f32⟩
  | 41 => ⟨S1x128, .f32⟩
  | 42 => ⟨S128, .f32⟩
  | 43 => ⟨S1x1x1x128, .f32⟩
  | 44 => ⟨S200x50x32x128, .f32⟩
  | 45 => ⟨S200x50x32x128, .f32⟩
  | 46 => ⟨S200x50x32x128, .f32⟩
  | 47 => ⟨S200x50x32x128, .f32⟩
  | 48 => ⟨S_, .f32⟩
  | 49 => ⟨S200x50x32x128, .f32⟩
  | 50 => ⟨S200x50x32x128, .f32⟩
  | 51 => ⟨S_, .f32⟩
  | 52 => ⟨S200x50x32x128, .f32⟩
  | 53 => ⟨S200x50x32x128, .f32⟩
  | 54 => ⟨S200x50x32x128, .f32⟩
  | 55 => ⟨S_, .f32⟩
  | 56 => ⟨S200x50x128, .f32⟩
  | 57 => ⟨S1x128x128, .f32⟩
  | 58 => ⟨S128x128, .f32⟩
  | 59 => ⟨S200x50x128, .f32⟩
  | 60 => ⟨S200x50x128, .f32⟩
  | 61 => ⟨S200x50x128, .f32⟩
  | 62 => ⟨S200x50x32x1, .f32⟩
  | 63 => ⟨S200x50x32, .f32⟩
  | 64 => ⟨S200x50x32x1, .f32⟩
  | 65 => ⟨S200x50x32x3, .f32⟩
  | 66 => ⟨S200x50x32x3, .f32⟩
  | 67 => ⟨S_, .f32⟩
  | 68 => ⟨S200x50x3, .f32⟩
  | 69 => ⟨S200x50x3, .f32⟩
  | 70 => ⟨S200x50x3, .f32⟩
  | 71 => ⟨S200x50x32x1, .f32⟩
  | 72 => ⟨S200x50x32, .f32⟩
  | 73 => ⟨S200x50x32x1, .f32⟩
  | 74 => ⟨S200x50x32x3, .f32⟩
  | 75 => ⟨S200x50x32x3, .f32⟩
  | 76 => ⟨S200x3x3, .f32⟩
  | 77 => ⟨S200x3x3, .f32⟩
  | 78 => ⟨S200x3x3, .f32⟩
  | 79 => ⟨S200x3x3, .f32⟩
  | 80 => ⟨S_, .f32⟩
  | 81 => ⟨S200x3x3, .f32⟩
  | 82 => ⟨S200x3x3, .f32⟩
  | 83 => ⟨S1x200x50x3, .f32⟩
  | 84 => ⟨S1x200x50x3, .f32⟩
  | 85 => ⟨S1x200x50x3, .f32⟩
  | 86 => ⟨S3x200x50x3, .f32⟩
  | _ => ⟨S200x3x3, .f32⟩

abbrev hbmTy (i : Nat) : BufTy := match i / 128 with
  | 0 => hbmTy0_0 i
  | 1 => hbmTy0_1 i
  | 2 => hbmTy0_2 i
  | _ => ⟨S200x3x3, .f32⟩

abbrev bufTy : (tb : Table) → Fin (tcTables nBuf tb) → BufTy
  | .hbm, ⟨i, _⟩ => hbmTy i
  | _, _ => ⟨S200x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_values : Ref sig .tc := ⟨.hbm, 42, rfl⟩
abbrev main_indices : Ref sig .tc := ⟨.hbm, 43, rfl⟩
abbrev main_v27 : Ref sig .tc := ⟨.hbm, 44, rfl⟩
abbrev main_v28 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v29 : Ref sig .tc := ⟨.hbm, 53, rfl⟩
abbrev main_v30 : Ref sig .tc := ⟨.hbm, 54, rfl⟩
abbrev main_cst_2 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_3 : Ref sig .tc := ⟨.hbm, 60, rfl⟩
abbrev main_cst_4 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_cst : Ref sig .tc := ⟨.hbm, 65, rfl⟩
abbrev main_call2_v3 : Ref sig .tc := ⟨.hbm, 66, rfl⟩
abbrev main_call2_v4 : Ref sig .tc := ⟨.hbm, 67, rfl⟩
abbrev main_call2_cst_0 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_cst_1 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_v15 : Ref sig .tc := ⟨.hbm, 80, rfl⟩
abbrev main_call2_v16 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst_5 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_call3_v0 : Ref sig .tc := ⟨.hbm, 94, rfl⟩
abbrev main_call3_v1 : Ref sig .tc := ⟨.hbm, 95, rfl⟩
abbrev main_call3_cst : Ref sig .tc := ⟨.hbm, 96, rfl⟩
abbrev main_call3_v2 : Ref sig .tc := ⟨.hbm, 97, rfl⟩
abbrev main_call3_v3 : Ref sig .tc := ⟨.hbm, 98, rfl⟩
abbrev main_call3_cst_0 : Ref sig .tc := ⟨.hbm, 99, rfl⟩
abbrev main_call3_v4 : Ref sig .tc := ⟨.hbm, 100, rfl⟩
abbrev main_call3_v5 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_c_6 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_call4_v0 : Ref sig .tc := ⟨.hbm, 135, rfl⟩
abbrev main_v78 : Ref sig .tc := ⟨.hbm, 136, rfl⟩
abbrev main_call5_v0 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_call6_v0 : Ref sig .tc := ⟨.hbm, 147, rfl⟩
abbrev main_v88 : Ref sig .tc := ⟨.hbm, 148, rfl⟩
abbrev main_call7_v0 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_call8_v0 : Ref sig .tc := ⟨.hbm, 170, rfl⟩
abbrev main_v109 : Ref sig .tc := ⟨.hbm, 171, rfl⟩
abbrev main_call9_v0 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_cst_7 : Ref sig .tc := ⟨.hbm, 203, rfl⟩
abbrev main_v140 : Ref sig .tc := ⟨.hbm, 204, rfl⟩
abbrev main_call10_v0 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_call11_v0 : Ref sig .tc := ⟨.hbm, 216, rfl⟩
abbrev main_call11_v1 : Ref sig .tc := ⟨.hbm, 217, rfl⟩
abbrev main_call11_cst : Ref sig .tc := ⟨.hbm, 218, rfl⟩
abbrev main_call11_v2 : Ref sig .tc := ⟨.hbm, 219, rfl⟩
abbrev main_call11_v3 : Ref sig .tc := ⟨.hbm, 220, rfl⟩
abbrev main_call11_cst_0 : Ref sig .tc := ⟨.hbm, 221, rfl⟩
abbrev main_call11_v4 : Ref sig .tc := ⟨.hbm, 222, rfl⟩
abbrev main_call11_v5 : Ref sig .tc := ⟨.hbm, 223, rfl⟩
abbrev main_v151 : Ref sig .tc := ⟨.hbm, 224, rfl⟩
abbrev main_cst_8 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_cst_9 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_call12_v0 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_call13_v0 : Ref sig .tc := ⟨.hbm, 259, rfl⟩
abbrev main_call13_v1 : Ref sig .tc := ⟨.hbm, 260, rfl⟩
abbrev main_call13_cst : Ref sig .tc := ⟨.hbm, 261, rfl⟩
abbrev main_call13_v2 : Ref sig .tc := ⟨.hbm, 262, rfl⟩
abbrev main_call13_v3 : Ref sig .tc := ⟨.hbm, 263, rfl⟩
abbrev main_call13_cst_0 : Ref sig .tc := ⟨.hbm, 264, rfl⟩
abbrev main_call13_v4 : Ref sig .tc := ⟨.hbm, 265, rfl⟩
abbrev main_call13_v5 : Ref sig .tc := ⟨.hbm, 266, rfl⟩
abbrev main_v183 : Ref sig .tc := ⟨.hbm, 267, rfl⟩
abbrev main_cst_10 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_cst_11 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩
abbrev main_v203 : Ref sig .tc := ⟨.hbm, 289, rfl⟩
abbrev main_v204 : Ref sig .tc := ⟨.hbm, 290, rfl⟩
abbrev main_call14_v0 : Ref sig .tc := ⟨.hbm, 291, rfl⟩
abbrev main_v205 : Ref sig .tc := ⟨.hbm, 292, rfl⟩
abbrev main_v206 : Ref sig .tc := ⟨.hbm, 293, rfl⟩
abbrev main_v207 : Ref sig .tc := ⟨.hbm, 294, rfl⟩
abbrev main_v208 : Ref sig .tc := ⟨.hbm, 295, rfl⟩
abbrev main_v209 : Ref sig .tc := ⟨.hbm, 296, rfl⟩
abbrev main_v210 : Ref sig .tc := ⟨.hbm, 297, rfl⟩
abbrev main_v211 : Ref sig .tc := ⟨.hbm, 298, rfl⟩
abbrev main_v212 : Ref sig .tc := ⟨.hbm, 299, rfl⟩
abbrev main_v213 : Ref sig .tc := ⟨.hbm, 300, rfl⟩
abbrev main_v214 : Ref sig .tc := ⟨.hbm, 301, rfl⟩
abbrev main_call15_v0 : Ref sig .tc := ⟨.hbm, 302, rfl⟩
abbrev main_call15_v1 : Ref sig .tc := ⟨.hbm, 303, rfl⟩
abbrev main_call15_cst : Ref sig .tc := ⟨.hbm, 304, rfl⟩
abbrev main_call15_v2 : Ref sig .tc := ⟨.hbm, 305, rfl⟩
abbrev main_call15_v3 : Ref sig .tc := ⟨.hbm, 306, rfl⟩
abbrev main_call15_cst_0 : Ref sig .tc := ⟨.hbm, 307, rfl⟩
abbrev main_call15_v4 : Ref sig .tc := ⟨.hbm, 308, rfl⟩
abbrev main_call15_v5 : Ref sig .tc := ⟨.hbm, 309, rfl⟩
abbrev main_v215 : Ref sig .tc := ⟨.hbm, 310, rfl⟩
abbrev main_cst_12 : Ref sig .tc := ⟨.hbm, 311, rfl⟩
abbrev main_v216 : Ref sig .tc := ⟨.hbm, 312, rfl⟩
abbrev main_v217 : Ref sig .tc := ⟨.hbm, 313, rfl⟩
abbrev main_v218 : Ref sig .tc := ⟨.hbm, 314, rfl⟩
abbrev main_v219 : Ref sig .tc := ⟨.hbm, 315, rfl⟩
abbrev main_v220 : Ref sig .tc := ⟨.hbm, 316, rfl⟩
abbrev main_v221 : Ref sig .tc := ⟨.hbm, 317, rfl⟩
abbrev main_v222 : Ref sig .tc := ⟨.hbm, 318, rfl⟩
abbrev main_v223 : Ref sig .tc := ⟨.hbm, 319, rfl⟩
abbrev main_v224 : Ref sig .tc := ⟨.hbm, 320, rfl⟩
abbrev main_v225 : Ref sig .tc := ⟨.hbm, 321, rfl⟩
abbrev main_v226 : Ref sig .tc := ⟨.hbm, 322, rfl⟩
abbrev main_cst_13 : Ref sig .tc := ⟨.hbm, 323, rfl⟩
abbrev main_v227 : Ref sig .tc := ⟨.hbm, 324, rfl⟩
abbrev main_v228 : Ref sig .tc := ⟨.hbm, 325, rfl⟩
abbrev main_v229 : Ref sig .tc := ⟨.hbm, 326, rfl⟩
abbrev main_v230 : Ref sig .tc := ⟨.hbm, 327, rfl⟩
abbrev main_v231 : Ref sig .tc := ⟨.hbm, 328, rfl⟩
abbrev main_v232 : Ref sig .tc := ⟨.hbm, 329, rfl⟩
abbrev main_v233 : Ref sig .tc := ⟨.hbm, 330, rfl⟩
abbrev main_v234 : Ref sig .tc := ⟨.hbm, 331, rfl⟩
abbrev main_v235 : Ref sig .tc := ⟨.hbm, 332, rfl⟩
abbrev main_v236 : Ref sig .tc := ⟨.hbm, 333, rfl⟩
abbrev main_v237 : Ref sig .tc := ⟨.hbm, 334, rfl⟩
abbrev main_v238 : Ref sig .tc := ⟨.hbm, 335, rfl⟩
abbrev main_cst_14 : Ref sig .tc := ⟨.hbm, 336, rfl⟩
abbrev main_v239 : Ref sig .tc := ⟨.hbm, 337, rfl⟩
abbrev main_v240 : Ref sig .tc := ⟨.hbm, 338, rfl⟩
abbrev main_v241 : Ref sig .tc := ⟨.hbm, 339, rfl⟩
abbrev main_v242 : Ref sig .tc := ⟨.hbm, 340, rfl⟩
abbrev main_v243 : Ref sig .tc := ⟨.hbm, 341, rfl⟩
abbrev main_v244 : Ref sig .tc := ⟨.hbm, 342, rfl⟩

abbrev nD : Nat := 1
abbrev τ : Topo := Topo.v7x

variable {F : FTy → Type} [FloatOps F]
-- ==== Proof.Crystal.Layout.lean ====
module

public import Idealize.ShloMosaic.Lib.ValueLayout
public import Idealize.ShloMosaic.Lib.ValueLayoutCasts
public import Idealize.ShloMosaic.Lib.ValueIdxCoords
public import Idealize.ShloMosaic.Lib.MatmulPlain
public import Idealize.ShloMosaic.PureOps.Ideal.Laws

/-! Reading re-laid vectors at an index: the casts, broadcasts and joins that the blocks of a crystal go through. -/

@[expose] public section

noncomputable section

namespace Crystal

open Idealize.ShloMosaic Idealize.ShloMosaic.ValueIdx

variable {α : Type}

/-- A matrix given a last axis of one. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    omega)

/-- A matrix given a middle axis of one. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A middle axis of one dropped. -/
theorem cast_a1b_ab {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The first two axes run together. -/
theorem cast_abc_rows {a b c n : ℕ} (x : (⟨3, ![a, b, c]⟩ : Shape).Idx → α)
    (h : (⟨3, ![a, b, c]⟩ : Shape).ShapeCasts ⟨2, ![n, c]⟩) (r : Fin n) (i : Fin a) (j : Fin b) (k : Fin c)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- The rows of a matrix dealt out over two axes. -/
theorem cast_rows_abc {a b c n : ℕ} (x : (⟨2, ![n, c]⟩ : Shape).Idx → α)
    (h : (⟨2, ![n, c]⟩ : Shape).ShapeCasts ⟨3, ![a, b, c]⟩) (r : Fin n) (i : Fin a) (j : Fin b) (k : Fin c)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A coordinate read through a broadcast: zero on an axis of one. -/
theorem coord {n v : ℕ} (hv : v < n) : v = if n = 1 then 0 else v := by
  split_ifs with h
  · omega
  · rfl

/-- The last axis spread. -/
theorem spread_last {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) :=
  broadcastTo_apply x h _ _ fun ax => match ax with
    | ⟨0, _⟩ => coord i.isLt
    | ⟨1, _⟩ => coord j.isLt
    | ⟨2, _⟩ => rfl

/-- The middle axis spread. -/
theorem spread_mid {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) :=
  broadcastTo_apply x h _ _ fun ax => match ax with
    | ⟨0, _⟩ => coord i.isLt
    | ⟨1, _⟩ => rfl
    | ⟨2, _⟩ => coord k.isLt

/-- The first axis spread. -/
theorem spread_first {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) :=
  broadcastTo_apply x h _ _ fun ax => match ax with
    | ⟨0, _⟩ => rfl
    | ⟨1, _⟩ => coord j.isLt
    | ⟨2, _⟩ => coord k.isLt

/-- The first two axes spread. -/
theorem spread_two {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) :=
  broadcastTo_apply x h _ _ fun ax => match ax with
    | ⟨0, _⟩ => rfl
    | ⟨1, _⟩ => rfl
    | ⟨2, _⟩ => coord k.isLt

/-- One row spread over all rows. -/
theorem spread_row {a b : ℕ} (x : (⟨2, ![1, b]⟩ : Shape).Idx → α)
    (h : (⟨2, ![1, b]⟩ : Shape).Broadcasts ⟨2, ![a, b]⟩) (i : Fin a) (j : Fin b) :
    broadcastTo ⟨2, ![a, b]⟩ x h (ix2 i j) = x (ix2 (0 : Fin 1) j) :=
  broadcastTo_apply x h _ _ fun ax => match ax with
    | ⟨0, _⟩ => rfl
    | ⟨1, _⟩ => coord j.isLt

/-- Rows joined below rows, read among the first. -/
theorem join_rows_left {a b n c : ℕ} (x : (⟨2, ![a, c]⟩ : Shape).Idx → α) (y : (⟨2, ![b, c]⟩ : Shape).Idx → α)
    (h : Shape.Concatenates [⟨2, ![a, c]⟩, ⟨2, ![b, c]⟩] ⟨2, ![n, c]⟩ 0) (r : Fin n) (i : Fin a) (k : Fin c)
    (hr : r.val = i.val) :
    concatenate ⟨2, ![n, c]⟩ 0 [⟨⟨2, ![a, c]⟩, x⟩, ⟨⟨2, ![b, c]⟩, y⟩] h (ix2 r k) = x (ix2 i k) :=
  concatenate_pair_apply_left 0 x y h (ix2 r k) rfl (ix2 i k) fun ax => match ax with
    | ⟨0, _⟩ => hr.symm
    | ⟨1, _⟩ => rfl

/-- A product of matrices into zeros. -/
theorem matmul_zero_ix {M K N : ℕ} (prec : Option ContractPrecision)
    (lhs : FVec Ideal ⟨2, ![M, K]⟩ .f32) (rhs : FVec Ideal ⟨2, ![K, N]⟩ .f32) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_plain_apply]
  show Ideal.ofBits .f32 0x00000000#32 + _ = _
  rw [Ideal.ofBits_zero_f32, zero_add]

end Crystal

end
-- ==== Proof.Crystal.Nearest.lean ====
/- The nearest neighbours of one atom, chosen in two ways: by a stable sort of the negated distances, and by counting how
   many distances are strictly smaller. Both choose the same thirty-two, when the thirty-second distance is strictly smaller
   than the thirty-third. -/
module

public import Idealize.ShloMosaic.Lib.SortFacts
public import Idealize.ShloMosaic.PureOps.Ideal

@[expose] public section

noncomputable section

namespace Crystal

open Idealize.ShloMosaic

/-- The order in which the atoms of a crystal come when sorted by a distance `d`, nearest first: the stable sort of the
    negated distances, greatest first. -/
def order (d : Fin 50 → EReal) : Fin 50 → Fin 50 :=
  sortedFrom fun k k' => Ideal.cmp .ogt (-(d k)) (-(d k')) == 1#1

/-- The `k`-th neighbour of the thirty-two nearest. -/
def nearest (d : Fin 50 → EReal) (k : Fin 32) : Fin 50 := order d (Fin.castLE (by omega) k)

/-- The comparison of the sort holds exactly when the first distance is the smaller. -/
theorem before_iff (a b : EReal) : (Ideal.cmp .ogt (-a) (-b) == 1#1) = decide (a < b) := by
  unfold Ideal.cmp
  by_cases h : a < b
  · have h' : -b < -a := EReal.neg_lt_neg_iff.mpr h
    simp [h, h']
  · have h' : ¬ (-b < -a) := fun hc => h (EReal.neg_lt_neg_iff.mp hc)
    simp [h, h']

/-- The order is a bijection of the atoms. -/
theorem order_bijective (d : Fin 50 → EReal) : Function.Bijective (order d) :=
  ⟨sortedFrom_injective _, sortedFrom_surjective _⟩

/-- The distances come in order. -/
theorem order_mono (d : Fin 50 → EReal) {a b : Fin 50} (h : a ≤ b) : d (order d a) ≤ d (order d b) := by
  rcases h.eq_or_lt with rfl | h
  · exact le_rfl
  have key := sortedFrom_noInversion (fun k k' => Ideal.cmp .ogt (-(d k)) (-(d k')) == 1#1)
    (fun k k' => Ideal.cmp .ogt (-(d k)) (-(d k')) == 1#1)
    (fun a b hab => by
      rw [before_iff] at hab ⊢
      simp only [decide_eq_true_eq, decide_eq_false_iff_not, not_lt] at hab ⊢
      exact hab.le)
    (fun a b hab => hab)
    (fun a b c hab hbc => by
      rw [before_iff] at hab hbc ⊢
      simp only [decide_eq_false_iff_not, not_lt] at hab hbc ⊢
      exact hbc.trans hab) a b h
  rw [before_iff] at key
  exact not_lt.mp (of_decide_eq_false key)

/-- How many of the padded distances are strictly smaller than the `j`-th, as an extended real. -/
def rank (d : Fin 56 → EReal) (j : Fin 56) : EReal := ∑ k : Fin 56, if d k < d j then 1 else 0

/-- One where fewer than thirty-two distances are strictly smaller, zero elsewhere. -/
def mask (d : Fin 56 → EReal) (j : Fin 56) : EReal := if rank d j < 32 then 1 else 0

/-- The count is a number of atoms. -/
theorem rank_eq (d : Fin 56 → EReal) (j : Fin 56) :
    rank d j = ((Finset.univ.filter fun k => d k < d j).card : EReal) := by
  unfold rank
  rw [Finset.sum_boole]

/-- So the mask asks whether that number is below thirty-two. -/
theorem mask_eq (d : Fin 56 → EReal) (j : Fin 56) :
    mask d j = if (Finset.univ.filter fun k => d k < d j).card < 32 then 1 else 0 := by
  unfold mask
  rw [rank_eq]
  have h : (((Finset.univ.filter fun k => d k < d j).card : EReal) < 32)
      ↔ (Finset.univ.filter fun k => d k < d j).card < 32 := by
    have h32 : (32 : EReal) = ((32 : ℕ) : EReal) := by norm_num
    rw [h32]
    exact Nat.cast_lt
  simp only [h]

/-- An atom of the crystal as a column of the padded tables. -/
abbrev pad (j : Fin 50) : Fin 56 := Fin.castAdd 6 j

section
variable (d : Fin 50 → EReal) (d' : Fin 56 → EReal) (far : EReal) (hin : ∀ j, d' (pad j) = d j)
  (hout : ∀ j : Fin 56, 50 ≤ j.val → d' j = far) (hgap : d (order d 31) < d (order d 32)) (hfar : d (order d 31) < far)
include hin hout hgap hfar

/-- Among the padded distances fewer than thirty-two are smaller than that of one of the nearest. -/
theorem mask_near (k : Fin 32) : mask d' (pad (nearest d k)) = 1 := by
  rw [mask_eq, if_pos]
  have hk31 : (Fin.castLE (by omega) k : Fin 50) ≤ 31 := by
    rw [Fin.le_def]; simp; omega
  have hsub : (Finset.univ.filter fun j => d' j < d' (pad (nearest d k)))
      ⊆ (Finset.univ.filter fun a : Fin 50 => a < Fin.castLE (by omega) k).image fun a => pad (order d a) := by
    intro j hj
    rw [Finset.mem_filter] at hj
    have hj := hj.2
    rw [hin] at hj
    rcases lt_or_ge j.val 50 with hlt | hge
    · obtain ⟨a, ha⟩ := (order_bijective d).2 ⟨j.val, hlt⟩
      have hja : j = pad (order d a) := by rw [ha]; rfl
      rw [Finset.mem_image]
      refine ⟨a, ?_, hja.symm⟩
      rw [Finset.mem_filter]
      refine ⟨Finset.mem_univ _, ?_⟩
      by_contra hcon
      rw [hja, hin] at hj
      exact absurd hj (not_lt.mpr (order_mono d (not_lt.mp hcon)))
    · rw [hout j hge] at hj
      have := (order_mono d hk31).trans_lt hfar
      exact absurd hj (not_lt.mpr this.le)
  refine lt_of_le_of_lt (Finset.card_le_card hsub) (lt_of_le_of_lt Finset.card_image_le ?_)
  have hio : (Finset.univ.filter fun a : Fin 50 => a < Fin.castLE (by omega) k) = Finset.Iio (Fin.castLE (by omega) k) := by
    ext a; simp
  rw [hio, Fin.card_Iio]
  simp

/-- At least thirty-two are smaller than that of any other atom. -/
theorem many_smaller (j : Fin 56) (h : d (order d 31) < d' j) : mask d' j = 0 := by
  rw [mask_eq, if_neg]
  rw [not_lt]
  have hsub : ((Finset.univ : Finset (Fin 32)).image fun k => pad (nearest d k))
      ⊆ Finset.univ.filter fun i => d' i < d' j := by
    intro i hi
    rw [Finset.mem_image] at hi
    obtain ⟨k, -, rfl⟩ := hi
    rw [Finset.mem_filter]
    refine ⟨Finset.mem_univ _, ?_⟩
    rw [hin]
    refine lt_of_le_of_lt (order_mono d ?_) h
    rw [Fin.le_def]; simp; omega
  refine le_trans (le_of_eq ?_) (Finset.card_le_card hsub)
  rw [Finset.card_image_of_injective, Finset.card_univ, Fintype.card_fin]
  intro a b hab
  have h1 := Fin.castAdd_injective 50 6 hab
  have h2 := (order_bijective d).1 h1
  exact Fin.castLE_injective _ h2

/-- A padding column is masked. -/
theorem mask_far (j : Fin 56) (hj : 50 ≤ j.val) : mask d' j = 0 :=
  many_smaller d d' far hin hout hgap hfar j (by rw [hout j hj]; exact hfar)

/-- A sum over the padded columns against the mask is the sum over the atoms against it. -/
theorem sum_mask (g : Fin 56 → EReal) :
    ∑ j : Fin 56, g j * mask d' j = ∑ j : Fin 50, g (pad j) * mask d' (pad j) := by
  have h := Fin.sum_univ_add (M := EReal) (a := 50) (b := 6) fun j => g j * mask d' j
  refine h.trans ?_
  rw [show (∑ i : Fin 6, g (Fin.natAdd 50 i) * mask d' (Fin.natAdd 50 i)) = 0 from
    Finset.sum_eq_zero fun i _ => by
      rw [mask_far d d' far hin hout hgap hfar _ (by simp), mul_zero], add_zero]

/-- A sum over the atoms against the mask is the sum over the thirty-two nearest. -/
theorem sum_mask_atoms (g : Fin 50 → EReal) :
    ∑ j : Fin 50, g j * mask d' (pad j) = ∑ k : Fin 32, g (nearest d k) := by
  have h0 := Function.Bijective.sum_comp (order_bijective d) fun j => g j * mask d' (pad j)
  have h := Fin.sum_univ_add (M := EReal) (a := 32) (b := 18) fun a => g (order d a) * mask d' (pad (order d a))
  refine h0.symm.trans (h.trans ?_)
  rw [show (∑ i : Fin 18, g (order d (Fin.natAdd 32 i)) * mask d' (pad (order d (Fin.natAdd 32 i)))) = 0 from
    Finset.sum_eq_zero fun i _ => by
      rw [many_smaller d d' far hin hout hgap hfar, mul_zero]
      rw [hin]
      refine lt_of_lt_of_le hgap (order_mono d ?_)
      rw [Fin.le_def]; simp, add_zero]
  refine Finset.sum_congr rfl fun k _ => ?_
  have h1 := mask_near d d' far hin hout hgap hfar k
  show g (nearest d k) * mask d' (pad (nearest d k)) = _
  rw [h1, mul_one]

end

end Crystal

end
-- ==== Proof.Crystal.Model.lean ====
module

public import proofs.«01_k».proof.Proof.Crystal.Nearest
public import Idealize.ShloMosaic.PureOps.Ideal.Laws

/-! One crystal, as mathematics over the extended reals: the displacements between its atoms, their distances, the
    embedding of the distances, and three rounds of messages between each atom and its thirty-two nearest neighbours. -/

@[expose] public section

noncomputable section

namespace Crystal

open Idealize.ShloMosaic

/-- The value of a 32-bit float literal. -/
abbrev lit (b : BitVec 32) : EReal := Ideal.ofBits .f32 b

/-- The displacement from the nearest periodic image of `b` to `a`, in fractions of the cell. -/
def wrap (a b : EReal) : EReal := (a - b) - Ideal.liftRound Ideal.roundHalfEven (a - b)

/-- The displacement between two atoms in the coordinates of space. -/
def between (a b : Fin 3 → EReal) (cell : Fin 3 → Fin 3 → EReal) (c : Fin 3) : EReal :=
  ∑ d : Fin 3, wrap (a d) (b d) * cell d c

/-- The length of a displacement, kept off zero. -/
def len (v : Fin 3 → EReal) : EReal := Ideal.sqrt (((v 0 * v 0 + v 1 * v 1) + v 2 * v 2) + lit 0x2B8CBCCC#32)

/-- The weight `v` times the logistic function of `v`. -/
def sil (v : EReal) : EReal := v * Ideal.logistic v

/-- The `r`-th of sixty-four centres between 0 and 5. -/
def centre (r : Fin 64) : EReal := ((r.val : ℝ) : EReal) * ((5 / 63 : ℝ) : EReal)

/-- The radial basis function of the `r`-th centre. -/
def radial (d : EReal) (r : Fin 64) : EReal := Ideal.exp (lit 0xC1200000#32 * ((d - centre r) * (d - centre r)))

/-- The embedding of a distance. -/
def edge (W : Fin 64 → Fin 128 → EReal) (d : EReal) (f : Fin 128) : EReal := sil (∑ r : Fin 64, radial d r * W r f)

/-- The first and the second half of the rows of a message matrix. -/
abbrev lo (g : Fin 128) : Fin 256 := Fin.castAdd 128 g
@[inherit_doc lo] abbrev hi (g : Fin 128) : Fin 256 := Fin.natAdd 128 g

/-- The message along an edge with embedding `e`, from an atom in state `h`. -/
def msg (W : Fin 256 → Fin 128 → EReal) (b : Fin 128 → EReal) (h e : Fin 128 → EReal) (f : Fin 128) : EReal :=
  sil ((∑ g : Fin 128, h g * W (lo g) f + ∑ g : Fin 128, e g * W (hi g) f) + b f)

/-- What is given of one crystal: its cell, the inverse of the cell, the atoms' places and features, and the weights. -/
structure Data where
  cell : Fin 3 → Fin 3 → EReal
  inv : Fin 3 → Fin 3 → EReal
  x : Fin 50 → Fin 3 → EReal
  z : Fin 50 → Fin 128 → EReal
  win : Fin 128 → Fin 128 → EReal
  wedge : Fin 64 → Fin 128 → EReal
  wmsg : Fin 3 → Fin 256 → Fin 128 → EReal
  bmsg : Fin 3 → Fin 128 → EReal
  wupd : Fin 3 → Fin 128 → Fin 128 → EReal
  wf : Fin 128 → EReal
  ws : Fin 128 → EReal

namespace Data

variable (A : Data)

/-- The displacement between atoms `i` and `j`. -/
def vec (i j : Fin 50) (c : Fin 3) : EReal := between (A.x i) (A.x j) A.cell c

/-- The distance between atoms `i` and `j`, that of an atom to itself made large. -/
def dist (i j : Fin 50) : EReal := if i = j then len (A.vec i j) + lit 0x49742400#32 else len (A.vec i j)

/-- The `k`-th of the nearest neighbours of atom `i`. -/
def nb (i : Fin 50) (k : Fin 32) : Fin 50 := nearest (A.dist i) k

/-- The direction from atom `j` to atom `i`. -/
def unit (i j : Fin 50) (c : Fin 3) : EReal := Ideal.div (A.vec i j c) (A.dist i j + lit 0x3089705F#32)

/-- The embedding of the distance between `i` and `j`. -/
def emb (i j : Fin 50) (f : Fin 128) : EReal := edge A.wedge (A.dist i j) f

/-- The states of the atoms at the start. -/
def h0 (i : Fin 50) (f : Fin 128) : EReal := ∑ g : Fin 128, A.z i g * A.win g f

/-- The message from `j` to `i` in round `t`. -/
def message (t : Fin 3) (h : Fin 50 → Fin 128 → EReal) (i j : Fin 50) (f : Fin 128) : EReal :=
  msg (A.wmsg t) (A.bmsg t) (h j) (A.emb i j) f

/-- The states after round `t`. -/
def update (t : Fin 3) (h : Fin 50 → Fin 128 → EReal) (i : Fin 50) (f : Fin 128) : EReal :=
  h i f + Ideal.tanh (∑ g : Fin 128, (∑ k : Fin 32, A.message t h i (A.nb i k) g) * A.wupd t g f)

/-- The states before round `t`. -/
def state : Fin 3 → Fin 50 → Fin 128 → EReal
  | ⟨0, _⟩ => A.h0
  | ⟨1, _⟩ => A.update 0 A.h0
  | ⟨2, _⟩ => A.update 1 (A.update 0 A.h0)

/-- The pull of a message against a vector of weights. -/
def pull (w : Fin 128 → EReal) (t : Fin 3) (i j : Fin 50) : EReal := ∑ f : Fin 128, A.message t (A.state t) i j f * w f

/-- How far atom `i` moves in round `t`, in the coordinates of space. -/
def move (t : Fin 3) (i : Fin 50) (c : Fin 3) : EReal :=
  ∑ k : Fin 32, A.pull A.wf t i (A.nb i k) * A.unit i (A.nb i k) c

/-- The places after round `t` from the places before it. -/
def step (t : Fin 3) (x : Fin 50 → Fin 3 → EReal) (i : Fin 50) (c : Fin 3) : EReal :=
  x i c + ∑ d : Fin 3, A.move t i d * A.inv d c

/-- The places after round `t`. -/
def place : Fin 3 → Fin 50 → Fin 3 → EReal
  | ⟨0, _⟩ => A.step 0 A.x
  | ⟨1, _⟩ => A.step 1 (A.step 0 A.x)
  | ⟨2, _⟩ => A.step 2 (A.step 1 (A.step 0 A.x))

/-- What round `t` adds to the stress before it is made symmetric. -/
def tension (t : Fin 3) (c d : Fin 3) : EReal :=
  ∑ i : Fin 50, ∑ k : Fin 32, (A.pull A.ws t i (A.nb i k) * A.unit i (A.nb i k) c) * A.vec i (A.nb i k) d

/-- The stress. -/
def stress (c d : Fin 3) : EReal :=
  lit 0x3F000000#32 * (((A.tension 0 c d + A.tension 1 c d) + A.tension 2 c d)
    + ((A.tension 0 d c + A.tension 1 d c) + A.tension 2 d c))

end Data

/-! ## Facts of the extended reals -/

/-- The literal one half. -/
theorem lit_half : lit 0x3F000000#32 = ((1 / 2 : ℝ) : EReal) := by
  simp [lit, Ideal.ofBits, Ideal.ieee, -EReal.coe_mul]; norm_num

/-- The literal one. -/
theorem lit_one : lit 0x3F800000#32 = 1 := by
  simp [lit, Ideal.ofBits, Ideal.ieee, -EReal.coe_mul]; norm_num

/-- The literal thirty-two. -/
theorem lit_32 : lit 0x42000000#32 = 32 := by
  have h : lit 0x42000000#32 = ((32 : ℝ) : EReal) := by
    simp [lit, Ideal.ofBits, Ideal.ieee, -EReal.coe_mul]; norm_num
  rw [h]; rfl

/-- The literal near 1e-12 is positive. -/
theorem lit_tiny_pos : 0 < lit 0x2B8CBCCC#32 := by
  simp [lit, Ideal.ofBits, Ideal.ieee, -EReal.coe_mul]

/-- The literal near 1e-9 is positive. -/
theorem lit_small_pos : 0 < lit 0x3089705F#32 := by
  simp [lit, Ideal.ofBits, Ideal.ieee, -EReal.coe_mul]

/-- The literal 1e6 is not negative. -/
theorem lit_million_nonneg : 0 ≤ lit 0x49742400#32 := by
  simp [lit, Ideal.ofBits, Ideal.ieee, -EReal.coe_mul]

/-- The square of an extended real is not negative. -/
theorem sq_nonneg' (a : EReal) : 0 ≤ a * a := by
  rcases le_total 0 a with h | h
  · exact EReal.mul_nonneg h h
  · exact EReal.mul_nonneg_iff.mpr (Or.inr ⟨h, h⟩)

/-- A square root of a number that is not negative is not negative. -/
theorem sqrt_nonneg' {a : EReal} (h : 0 ≤ a) : 0 ≤ Ideal.sqrt a := by
  induction a using EReal.rec with
  | bot => simp at h
  | top => simp
  | coe r =>
    rw [Ideal.sqrt_coe, if_neg (not_lt.mpr (EReal.coe_nonneg.mp h))]
    exact EReal.coe_nonneg.mpr (Real.sqrt_nonneg r)

/-- A length is not negative. -/
theorem len_nonneg (v : Fin 3 → EReal) : 0 ≤ len v :=
  sqrt_nonneg' (add_nonneg (add_nonneg (add_nonneg (sq_nonneg' _) (sq_nonneg' _)) (sq_nonneg' _)) lit_tiny_pos.le)

/-- A number that is not negative, with the small literal added, is not zero. -/
theorem add_small_ne_zero {a : EReal} (h : 0 ≤ a) : a + lit 0x3089705F#32 ≠ 0 :=
  (lt_of_lt_of_le lit_small_pos (le_add_of_nonneg_left h)).ne'

/-- Times the quotient of one is the quotient, where the divisor is not zero. -/
theorem mul_one_div (a : EReal) {b : EReal} (h : b ≠ 0) : a * Ideal.div (lit 0x3F800000#32) b = Ideal.div a b := by
  rw [lit_one]
  simp [Ideal.div, h]

/-- The logistic weight by the hyperbolic tangent of half the argument. -/
theorem sil_tanh (v : EReal) :
    v * (lit 0x3F000000#32 + lit 0x3F000000#32 * Ideal.tanh (lit 0x3F000000#32 * v)) = sil v := by
  unfold sil
  congr 1
  rw [lit_half]
  induction v using EReal.rec with
  | bot =>
    rw [EReal.coe_mul_bot_of_pos (by norm_num), Ideal.tanh_bot, Ideal.logistic]
    rw [EReal.neg_bot, Ideal.exp_top, EReal.add_top_of_ne_bot (by decide)]
    simp [Ideal.div]
    norm_cast
    norm_num
  | top =>
    rw [EReal.coe_mul_top_of_pos (by norm_num), Ideal.tanh_top, Ideal.logistic]
    rw [EReal.neg_top, Ideal.exp_bot, add_zero]
    simp [Ideal.div]
    norm_cast
    norm_num
  | coe r =>
    rw [Ideal.logistic_coe, ← EReal.coe_mul, Ideal.tanh_coe, ← EReal.coe_mul, ← EReal.coe_add]
    congr 1
    have h := Real.tanh_eq_sinh_div_cosh (1 / 2 * r)
    rw [h, Real.sinh_eq, Real.cosh_eq]
    have e : Real.exp (-r) = Real.exp (-(1 / 2 * r)) * Real.exp (-(1 / 2 * r)) := by
      rw [← Real.exp_add]; congr 1; ring
    have e1 : Real.exp (1 / 2 * r) * Real.exp (-(1 / 2 * r)) = 1 := by
      rw [← Real.exp_add]; simp
    have p1 := Real.exp_pos (1 / 2 * r)
    have p2 := Real.exp_pos (-(1 / 2 * r))
    rw [e]
    generalize Real.exp (1 / 2 * r) = a at *
    generalize Real.exp (-(1 / 2 * r)) = b at *
    have hab : a + b ≠ 0 := (add_pos p1 p2).ne'
    have hb : 1 + b * b ≠ 0 := by positivity
    field_simp
    nlinarith

/-- One half of a sum. -/
theorem half_add (a b : EReal) : lit 0x3F000000#32 * (a + b) = lit 0x3F000000#32 * a + lit 0x3F000000#32 * b := by
  rw [lit_half]
  exact EReal.left_distrib_of_nonneg_of_ne_top (by norm_num) (EReal.coe_ne_top _) a b

end Crystal

end
-- ==== Proof.Crystal.Round.lean ====
module

public import Idealize.ShloMosaic.Lib.ValueIdx
public import proofs.«01_k».proof.Proof.Crystal.Layout
public import proofs.«01_k».proof.Proof.Crystal.Model
public import proofs.«01_k».proof.Proof.Gen.KernelIdeal.Skeleton

/-! What one round of the kernel's body computes, read at an index. -/

@[expose] public section

noncomputable section

namespace Crystal

open Idealize.ShloMosaic Idealize.ShloMosaic.ValueIdx Cert.KernelIdeal Cert.KernelIdeal.Gen

/-- The row of a pair of atoms, the second of them padded. -/
def pair (i : Fin 50) (j : Fin 56) : Fin 2800 := ⟨i.val * 56 + j.val, by omega⟩

/-- A matrix with three columns given one by one. -/
theorem columns {α : Type} {n : ℕ} (x y z : (⟨2, ![n, 1]⟩ : Shape).Idx → α)
    (h : Shape.Concatenates [⟨2, ![n, 1]⟩, ⟨2, ![n, 1]⟩, ⟨2, ![n, 1]⟩] ⟨2, ![n, 3]⟩ 1) (i : Fin n) (c : Fin 3) :
    concatenate ⟨2, ![n, 3]⟩ 1 [⟨⟨2, ![n, 1]⟩, x⟩, ⟨⟨2, ![n, 1]⟩, y⟩, ⟨⟨2, ![n, 1]⟩, z⟩] h (ix2 i c)
      = (![x, y, z] c) (ix2 i (0 : Fin 1)) :=
  concatenate_ofFn_apply (t := ⟨2, ![n, 3]⟩) (s₁ := ⟨2, ![n, 1]⟩) 1 ![x, y, z] h rfl 1 rfl (ix2 i c) c
    (Nat.div_one _) (ix2 i (0 : Fin 1)) (Nat.mod_one _).symm fun b hb => match b with
    | ⟨0, _⟩ => rfl
    | ⟨1, _⟩ => absurd rfl hb

/-- A matrix with three rows given one by one. -/
theorem rows {α : Type} {n : ℕ} (x y z : (⟨2, ![1, n]⟩ : Shape).Idx → α)
    (h : Shape.Concatenates [⟨2, ![1, n]⟩, ⟨2, ![1, n]⟩, ⟨2, ![1, n]⟩] ⟨2, ![3, n]⟩ 0) (c : Fin 3) (i : Fin n) :
    concatenate ⟨2, ![3, n]⟩ 0 [⟨⟨2, ![1, n]⟩, x⟩, ⟨⟨2, ![1, n]⟩, y⟩, ⟨⟨2, ![1, n]⟩, z⟩] h (ix2 c i)
      = (![x, y, z] c) (ix2 (0 : Fin 1) i) :=
  concatenate_ofFn_apply (t := ⟨2, ![3, n]⟩) (s₁ := ⟨2, ![1, n]⟩) 0 ![x, y, z] h rfl 1 rfl (ix2 c i) c
    (Nat.div_one _) (ix2 (0 : Fin 1) i) (Nat.mod_one _).symm fun b hb => match b with
    | ⟨0, _⟩ => absurd rfl hb
    | ⟨1, _⟩ => rfl

/-- The sum over the second of two axes. -/
theorem sum_axis1_two {a b : ℕ} (x : FVec Ideal ⟨2, ![a, b]⟩ .f32)
    (h : (⟨2, ![a, b]⟩ : Shape).Reduces [1] ⟨1, ![a]⟩) (hf : FKind.Formats .f32)
    (hn : 0x00000000#32 = FKind.add.neutral .f32 hf) (i : Fin a) :
    multiReduction .add [1] ⟨1, ![a]⟩ x 0x00000000#32 h hf hn (ix1 i) = ∑ j : Fin b, x (ix2 i j) := by
  rw [Ideal.multiReduction_add_single]
  refine Finset.sum_congr rfl fun j _ => congrArg x ?_
  funext ax
  match ax with
  | ⟨0, _⟩ => rfl
  | ⟨1, _⟩ => rfl

/-- The sum over the second of three axes. -/
theorem sum_axis1_three {a b c : ℕ} (x : FVec Ideal ⟨3, ![a, b, c]⟩ .f32)
    (h : (⟨3, ![a, b, c]⟩ : Shape).Reduces [1] ⟨2, ![a, c]⟩) (hf : FKind.Formats .f32)
    (hn : 0x00000000#32 = FKind.add.neutral .f32 hf) (i : Fin a) (k : Fin c) :
    multiReduction .add [1] ⟨2, ![a, c]⟩ x 0x00000000#32 h hf hn (ix2 i k) = ∑ j : Fin b, x (ix3 i j k) := by
  rw [Ideal.multiReduction_add_single]
  refine Finset.sum_congr rfl fun j _ => congrArg x ?_
  funext ax
  match ax with
  | ⟨0, _⟩ => rfl
  | ⟨1, _⟩ => rfl
  | ⟨2, _⟩ => rfl

/-- The sum over an array with a first axis of one. -/
theorem sum_lead {a b : ℕ} (F : (⟨3, ![1, a, b]⟩ : Shape).Idx → EReal) :
    ∑ i : (⟨3, ![1, a, b]⟩ : Shape).Idx, F i = ∑ i : Fin a, ∑ j : Fin b, F (ix3 (0 : Fin 1) i j) := by
  rw [← Fintype.sum_equiv ⟨fun p : Fin a × Fin b => ix3 (0 : Fin 1) p.1 p.2, fun i => (i 1, i 2), fun _ => rfl,
    fun i => by
      funext ax
      match ax with
      | ⟨0, h⟩ => exact Fin.ext (by have := (i ⟨0, h⟩).isLt; change _ < 1 at this; change 0 = _; omega)
      | ⟨1, _⟩ => rfl
      | ⟨2, _⟩ => rfl⟩
    (fun p => F (ix3 (0 : Fin 1) p.1 p.2)) F fun _ => rfl]
  simp only [Fintype.sum_prod_type]

/-- The rows of a message matrix that start at `o`. -/
def half (o : ℕ) (h : S256x128.Slices ![o, 0] S128x128) (w : Vec Ideal S1x256x128 .f32) : FVec Ideal S128x128 .f32 :=
  extractStridedSlice S128x128 ![o, 0] (shapeCast S256x128 w shapeCasts_S1x256x128_S256x128) h

/-- Its entries. -/
theorem half_apply (o : ℕ) (h : S256x128.Slices ![o, 0] S128x128) (w : Vec Ideal S1x256x128 .f32) (g f : Fin 128)
    (k : Fin 256) (hk : k.val = o + g.val) : half o h w (ix2 g f) = w (ix3 (0 : Fin 1) k f) := by
  unfold half
  rw [slice2_axis0_apply o _ _ g f k hk, shapeCast_1ab_ab_apply]

/-- What goes into the logistic weight of the messages. -/
def drive (e : FVec Ideal S2800x128 .f32) (h : FVec Ideal S50x128 .f32) (w : Vec Ideal S1x256x128 .f32)
    (b : Vec Ideal S1x128 .f32) : FVec Ideal S50x56x128 .f32 :=
  addf (shapeCast S50x56x128 (FloatOps.matmul (DotDims.plain 2800 128 128) none e
      (half 128 slices_S256x128_o128_0_S128x128 w) (constant S2800x128 .f32 0x00000000#32)) shapeCasts_S2800x128_S50x56x128)
    (broadcastTo S50x56x128 (shapeCast S1x56x128 (concatenate S56x128 0 [⟨S50x128, addf
        (FloatOps.matmul (DotDims.plain 50 128 128) none h (half 0 slices_S256x128_o0_0_S128x128 w)
          (constant S50x128 .f32 0x00000000#32)) (broadcastTo S50x128 b broadcasts_S1x128_S50x128)⟩,
        ⟨S6x128, broadcast S6x128 (Scalar.ofBits .f32 0x00000000#32 : Ideal .f32)⟩] concatenates_S50x128_S6x128_S56x128_d0)
        shapeCasts_S56x128_S1x56x128) broadcasts_S1x56x128_S50x56x128)

/-- It, at a pair of real atoms. -/
theorem drive_apply (e : FVec Ideal S2800x128 .f32) (h : FVec Ideal S50x128 .f32) (w : Vec Ideal S1x256x128 .f32)
    (b : Vec Ideal S1x128 .f32) (i j : Fin 50) (f : Fin 128) :
    drive e h w b (ix3 i (pad j) f)
      = (∑ g : Fin 128, h (ix2 j g) * w (ix3 (0 : Fin 1) (lo g) f)
          + ∑ g : Fin 128, e (ix2 (pair i (pad j)) g) * w (ix3 (0 : Fin 1) (hi g) f)) + b (ix2 (0 : Fin 1) f) := by
  unfold drive
  rw [addf_apply, cast_rows_abc _ _ (pair i (pad j)) i (pad j) f rfl, spread_first, shapeCast_ab_1ab_apply,
    join_rows_left _ _ _ (pad j) j f rfl, addf_apply, spread_row, matmul_zero_ix, matmul_zero_ix]
  simp only [fun g : Fin 128 => half_apply 128 slices_S256x128_o128_0_S128x128 w g f (hi g) rfl,
    fun g : Fin 128 => half_apply 0 slices_S256x128_o0_0_S128x128 w g f (lo g) (Nat.zero_add _).symm]
  rw [add_left_comm, ← add_assoc]

/-- The messages of a round, at a pair of real atoms. -/
theorem messages_apply (e : FVec Ideal S2800x128 .f32) (h : FVec Ideal S50x128 .f32) (w : Vec Ideal S1x256x128 .f32)
    (b : Vec Ideal S1x128 .f32) (i j : Fin 50) (f : Fin 128) :
    k0_pay44 e h w b (ix3 i (pad j) f)
      = msg (fun r f => w (ix3 (0 : Fin 1) r f)) (fun f => b (ix2 (0 : Fin 1) f)) (fun g => h (ix2 j g))
          (fun g => e (ix2 (pair i (pad j)) g)) f := by
  unfold msg
  rw [← drive_apply, ← sil_tanh]
  rfl

/-- The sums of the messages under the mask. -/
theorem gathered_apply (mask : FVec Ideal S50x56 .f32) (e : FVec Ideal S2800x128 .f32) (h : FVec Ideal S50x128 .f32)
    (w : Vec Ideal S1x256x128 .f32) (b : Vec Ideal S1x128 .f32) (i : Fin 50) (f : Fin 128) :
    k0_pay45 mask e h w b (ix2 i f) = ∑ j : Fin 56, k0_pay44 e h w b (ix3 i j f) * mask (ix2 i j) := by
  unfold k0_pay45
  refine (sum_axis1_three _ _ _ _ i f).trans (Finset.sum_congr rfl fun j _ => ?_)
  rw [mulf_apply, spread_last, cast_ab_ab1]

/-- The states after a round. -/
theorem states_apply (h g : FVec Ideal S50x128 .f32) (w : Vec Ideal S1x128x128 .f32) (i : Fin 50) (f : Fin 128) :
    k0_pay46 h g w (ix2 i f)
      = h (ix2 i f) + Ideal.tanh (∑ k : Fin 128, g (ix2 i k) * w (ix3 (0 : Fin 1) k f)) := by
  have e : FloatOps.matmul (φ₂ := .f32) (DotDims.plain 50 128 128) none g
      (shapeCast S128x128 w shapeCasts_S1x128x128_S128x128)
      (constant S50x128 .f32 0x00000000#32) (ix2 i f) = ∑ k : Fin 128, g (ix2 i k) * w (ix3 (0 : Fin 1) k f) := by
    rw [matmul_zero_ix]
    exact Finset.sum_congr rfl fun k _ => by rw [shapeCast_1ab_ab_apply]
  rw [← e]
  rfl

/-- The two pulls of every message. -/
theorem pulls_apply (m : FVec Ideal S50x56x128 .f32) (w : Vec Ideal S128x2 .f32) (i : Fin 50) (q : Fin 2) (j : Fin 56) :
    k0_pay47 m w (ix3 i q j) = ∑ f : Fin 128, m (ix3 i j f) * w (ix2 f q) := by
  unfold k0_pay47
  refine (transpose_ix3_021_apply _ _ i q j).trans ?_
  rw [cast_rows_abc _ _ (pair i j) i j q rfl]
  refine (matmul_zero_ix none _ _ (pair i j) q).trans (Finset.sum_congr rfl fun f _ => ?_)
  rw [cast_abc_rows _ _ (pair i j) i j f rfl, shapeCast_self]

/-- The pull that makes the stress, under the mask. -/
theorem pulls_stress_apply (mask : FVec Ideal S50x56 .f32) (m : FVec Ideal S50x56x128 .f32) (w : Vec Ideal S128x2 .f32)
    (i : Fin 50) (j : Fin 56) :
    k0_pay48 mask m w (ix2 i j) = (∑ f : Fin 128, m (ix3 i j f) * w (ix2 f (1 : Fin 2))) * mask (ix2 i j) := by
  unfold k0_pay48
  rw [mulf_apply, cast_a1b_ab, slice3_axis1_apply 1 _ _ i (0 : Fin 1) j (1 : Fin 2) rfl, pulls_apply]

/-- The places after a round. -/
theorem places_apply (inv : FVec Ideal S3x3 .f32) (mask u0 u1 u2 : FVec Ideal S50x56 .f32) (x : FVec Ideal S50x3 .f32)
    (m : FVec Ideal S50x56x128 .f32) (w : Vec Ideal S128x2 .f32) (i : Fin 50) (c : Fin 3) :
    k0_pay49 inv mask u0 u1 u2 x m w (ix2 i c)
      = x (ix2 i c) + ∑ d : Fin 3, (∑ j : Fin 56, ((∑ f : Fin 128, m (ix3 i j f) * w (ix2 f (0 : Fin 2))) * mask (ix2 i j))
          * (![u0, u1, u2] d) (ix2 i j)) * inv (ix2 d c) := by
  have ef : ∀ j, mulf (shapeCast S50x56 (extractStridedSlice S50x1x56 ![0, 0, 0] (k0_pay47 m w)
      slices_S50x2x56_o0_0_0_S50x1x56) shapeCasts_S50x1x56_S50x56) mask (ix2 i j)
      = (∑ f : Fin 128, m (ix3 i j f) * w (ix2 f (0 : Fin 2))) * mask (ix2 i j) := fun j => by
    rw [mulf_apply, cast_a1b_ab, slice3_axis1_apply 0 _ _ i (0 : Fin 1) j (0 : Fin 2) rfl, pulls_apply]
  have eu : ∀ u : FVec Ideal S50x56 .f32, shapeCast S50x1 (multiReduction .add [1] S50 (mulf (mulf (shapeCast S50x56
      (extractStridedSlice S50x1x56 ![0, 0, 0] (k0_pay47 m w) slices_S50x2x56_o0_0_0_S50x1x56)
      shapeCasts_S50x1x56_S50x56) mask) u) 0x00000000#32 reduces_S50x56_S50 (.inl rfl) rfl) shapeCasts_S50_S50x1
      (ix2 i (0 : Fin 1)) = ∑ j : Fin 56, ((∑ f : Fin 128, m (ix3 i j f) * w (ix2 f (0 : Fin 2))) * mask (ix2 i j))
          * u (ix2 i j) := fun u => by
    rw [shapeCast_a_a1_apply]
    refine (sum_axis1_two _ _ _ _ i).trans (Finset.sum_congr rfl fun j _ => ?_)
    rw [mulf_apply, ef]
  unfold k0_pay49
  rw [addf_apply]
  refine congrArg (x (ix2 i c) + ·) ((matmul_zero_ix none _ _ i c).trans (Finset.sum_congr rfl fun d _ => ?_))
  rw [columns]
  congr 1
  match d with
  | ⟨0, _⟩ => exact eu u0
  | ⟨1, _⟩ => exact eu u1
  | ⟨2, _⟩ => exact eu u2

/-- The sum of a product of two arrays, as a matrix of one entry. -/
def paired (a v : FVec Ideal S50x56 .f32) : FVec Ideal S1x1 .f32 :=
  broadcast S1x1 (extractAt ![0, 0, 0] (shapeCast S1x1x1 (multiReduction .add [1, 2] S1 (shapeCast S1x50x56 (mulf a v)
    shapeCasts_S50x56_S1x50x56) 0x00000000#32 reduces_S1x50x56_S1 (.inl rfl) rfl) shapeCasts_S1_S1x1x1)
    inpos_S1x1x1_p0_0_0)

/-- Its entry. -/
theorem paired_apply (a v : FVec Ideal S50x56 .f32) (k : S1x1.Idx) :
    paired a v k = ∑ i : Fin 50, ∑ j : Fin 56, a (ix2 i j) * v (ix2 i j) := by
  have h1 : paired a v k = multiReduction .add [1, 2] S1 (shapeCast S1x50x56 (mulf a v)
    shapeCasts_S50x56_S1x50x56) 0x00000000#32 reduces_S1x50x56_S1 (.inl rfl) rfl (ix1 (0 : Fin 1)) := by
    refine (shapeCast_apply _ shapeCasts_S1_S1x1x1 _ (ix1 (0 : Fin 1)) ?_)
    rw [Shape.rowMajor_val_three, Shape.rowMajor_val_one]
    rfl
  refine h1.trans ((Ideal.multiReduction_add_total _ _ _ (fun b => by match b with | ⟨0, _⟩ => rfl) _ _ _).trans
    ((sum_lead _).trans ?_))
  refine Finset.sum_congr rfl fun i _ => Finset.sum_congr rfl fun j _ => ?_
  exact shapeCast_ab_1ab_apply _ _ _ i j

/-- One half of the sum of two matrices of one entry. -/
def mean (a b : FVec Ideal S1x1 .f32) : FVec Ideal S1x1 .f32 :=
  mulf (broadcast S1x1 (Scalar.ofBits .f32 0x3F000000#32)) (addf a b)

/-- A matrix of nine entries and its transpose, halved and added to another matrix. -/
def tensed (s : FVec Ideal S3x3 .f32) (a : Fin 3 → Fin 3 → FVec Ideal S1x1 .f32) : FVec Ideal S3x3 .f32 :=
  addf s (concatenate S3x3 0 [
    ⟨S1x3, concatenate S1x3 1 [⟨S1x1, mean (a 0 0) (a 0 0)⟩, ⟨S1x1, mean (a 0 1) (a 1 0)⟩, ⟨S1x1, mean (a 0 2) (a 2 0)⟩]
      concatenates_S1x1_S1x1_S1x1_S1x3_d1⟩,
    ⟨S1x3, concatenate S1x3 1 [⟨S1x1, mean (a 1 0) (a 0 1)⟩, ⟨S1x1, mean (a 1 1) (a 1 1)⟩, ⟨S1x1, mean (a 1 2) (a 2 1)⟩]
      concatenates_S1x1_S1x1_S1x1_S1x3_d1⟩,
    ⟨S1x3, concatenate S1x3 1 [⟨S1x1, mean (a 2 0) (a 0 2)⟩, ⟨S1x1, mean (a 2 1) (a 1 2)⟩, ⟨S1x1, mean (a 2 2) (a 2 2)⟩]
      concatenates_S1x1_S1x1_S1x1_S1x3_d1⟩] concatenates_S1x3_S1x3_S1x3_S3x3_d0)

/-- Its entries. -/
theorem tensed_apply (s : FVec Ideal S3x3 .f32) (a : Fin 3 → Fin 3 → FVec Ideal S1x1 .f32) (c d : Fin 3) :
    tensed s a (ix2 c d) = s (ix2 c d) + lit 0x3F000000#32
      * (a c d (ix2 (0 : Fin 1) (0 : Fin 1)) + a d c (ix2 (0 : Fin 1) (0 : Fin 1))) := by
  unfold tensed
  rw [addf_apply]
  refine congrArg (s (ix2 c d) + ·) ?_
  refine (rows _ _ _ concatenates_S1x3_S1x3_S1x3_S3x3_d0 c d).trans ?_
  match c with
  | ⟨0, _⟩ =>
    refine (columns _ _ _ concatenates_S1x1_S1x1_S1x1_S1x3_d1 (0 : Fin 1) d).trans ?_
    match d with
    | ⟨0, _⟩ => rfl
    | ⟨1, _⟩ => rfl
    | ⟨2, _⟩ => rfl
  | ⟨1, _⟩ =>
    refine (columns _ _ _ concatenates_S1x1_S1x1_S1x1_S1x3_d1 (0 : Fin 1) d).trans ?_
    match d with
    | ⟨0, _⟩ => rfl
    | ⟨1, _⟩ => rfl
    | ⟨2, _⟩ => rfl
  | ⟨2, _⟩ =>
    refine (columns _ _ _ concatenates_S1x1_S1x1_S1x1_S1x3_d1 (0 : Fin 1) d).trans ?_
    match d with
    | ⟨0, _⟩ => rfl
    | ⟨1, _⟩ => rfl
    | ⟨2, _⟩ => rfl

end Crystal

end
-- ==== Proof.Crystal.Start.lean ====
module

public import Idealize.ShloMosaic.PureOps.IdealRules
public import Idealize.ShloMosaic.Lib.WordCmp
public import proofs.«01_k».proof.Proof.Crystal.Round

/-! What the kernel's body computes before its rounds, read at an index. -/

@[expose] public section

noncomputable section

namespace Crystal

open Idealize.ShloMosaic Idealize.ShloMosaic.ValueIdx Cert.KernelIdeal Cert.KernelIdeal.Gen

/-- A word of one bit, made wide and read as a number. -/
theorem bit_number (p : Prop) [Decidable p] :
    (FloatOps.sitofp .f32 ((BitVec.ofBool (decide p)).setWidth 32) : Ideal .f32) = if p then 1 else 0 := by
  show ((((BitVec.ofBool (decide p)).setWidth 32).toInt : ℝ) : EReal) = _
  by_cases h : p <;> simp [h]

/-- The places in a block. -/
theorem places_of_block (x : Vec Ideal S1x50x3 .f32) (i : Fin 50) (c : Fin 3) :
    k0_pay3 x (ix2 i c) = x (ix3 (0 : Fin 1) i c) := shapeCast_1ab_ab_apply _ _ i c

/-- The inverse cell in a block. -/
theorem inverse_of_block (x : Vec Ideal S1x3x3 .f32) (i c : Fin 3) :
    k0_pay4 x (ix2 i c) = x (ix3 (0 : Fin 1) i c) := shapeCast_1ab_ab_apply _ _ i c

/-- The displacements, the coordinate of space first among the last two. -/
theorem displacements_apply (x : Vec Ideal S1x50x3 .f32) (cell : Vec Ideal S1x3x3 .f32) (i j : Fin 50) (c : Fin 3) :
    k0_pay5 x cell (ix3 i c (pad j))
      = between (fun d => x (ix3 (0 : Fin 1) i d)) (fun d => x (ix3 (0 : Fin 1) j d))
          (fun d c => cell (ix3 (0 : Fin 1) d c)) c := by
  unfold k0_pay5
  refine (transpose_ix3_021_apply _ _ i c (pad j)).trans ?_
  rw [cast_rows_abc _ _ (pair i (pad j)) i (pad j) c rfl]
  refine (matmul_zero_ix none _ _ (pair i (pad j)) c).trans (Finset.sum_congr rfl fun d _ => ?_)
  rw [cast_abc_rows _ _ (pair i (pad j)) i (pad j) d rfl, shapeCast_1ab_ab_apply]
  refine congrArg (· * _) ?_
  have e : subf (broadcastTo S50x56x3 (shapeCast S50x1x3 (k0_pay3 x) shapeCasts_S50x3_S50x1x3) broadcasts_S50x1x3_S50x56x3)
      (broadcastTo S50x56x3 (shapeCast S1x56x3 (concatenate S56x3 0 [⟨S50x3, k0_pay3 x⟩,
        ⟨S6x3, broadcast S6x3 (Scalar.ofBits .f32 0x00000000#32 : Ideal .f32)⟩] concatenates_S50x3_S6x3_S56x3_d0)
        shapeCasts_S56x3_S1x56x3) broadcasts_S1x56x3_S50x56x3) (ix3 i (pad j) d)
      = x (ix3 (0 : Fin 1) i d) - x (ix3 (0 : Fin 1) j d) := by
    rw [subf_apply, spread_mid, spread_first, cast_ab_a1b, shapeCast_ab_1ab_apply,
      join_rows_left _ _ _ (pad j) j d rfl, places_of_block, places_of_block]
  unfold wrap
  rw [← e]
  rfl

/-- The first coordinate of the displacements. -/
theorem displacement0_apply (x : Vec Ideal S1x50x3 .f32) (cell : Vec Ideal S1x3x3 .f32) (i : Fin 50) (j : Fin 56) :
    k0_pay6 x cell (ix2 i j) = k0_pay5 x cell (ix3 i (0 : Fin 3) j) := by
  unfold k0_pay6
  exact (cast_a1b_ab _ _ i j).trans (slice3_axis1_apply 0 _ _ i (0 : Fin 1) j (0 : Fin 3) rfl)

/-- The second coordinate of the displacements. -/
theorem displacement1_apply (x : Vec Ideal S1x50x3 .f32) (cell : Vec Ideal S1x3x3 .f32) (i : Fin 50) (j : Fin 56) :
    k0_pay7 x cell (ix2 i j) = k0_pay5 x cell (ix3 i (1 : Fin 3) j) := by
  unfold k0_pay7
  exact (cast_a1b_ab _ _ i j).trans (slice3_axis1_apply 1 _ _ i (0 : Fin 1) j (1 : Fin 3) rfl)

/-- The third coordinate of the displacements. -/
theorem displacement2_apply (x : Vec Ideal S1x50x3 .f32) (cell : Vec Ideal S1x3x3 .f32) (i : Fin 50) (j : Fin 56) :
    k0_pay8 x cell (ix2 i j) = k0_pay5 x cell (ix3 i (2 : Fin 3) j) := by
  unfold k0_pay8
  exact (cast_a1b_ab _ _ i j).trans (slice3_axis1_apply 2 _ _ i (0 : Fin 1) j (2 : Fin 3) rfl)

/-- The distances of a row of padded pairs. -/
theorem distances_apply (x : Vec Ideal S1x50x3 .f32) (cell : Vec Ideal S1x3x3 .f32) (i : Fin 50) (j : Fin 56) :
    k0_pay9 x cell (ix2 i j)
      = if 50 ≤ j.val then lit 0x4E6E6B28#32
        else if i.val = j.val then len (fun c => k0_pay5 x cell (ix3 i c j)) + lit 0x49742400#32
        else len (fun c => k0_pay5 x cell (ix3 i c j)) := by
  have el : ∀ y, len (fun c => k0_pay5 x cell (ix3 i c j)) = y →
      Ideal.sqrt (((k0_pay6 x cell (ix2 i j) * k0_pay6 x cell (ix2 i j) + k0_pay7 x cell (ix2 i j) * k0_pay7 x cell (ix2 i j))
        + k0_pay8 x cell (ix2 i j) * k0_pay8 x cell (ix2 i j)) + lit 0x2B8CBCCC#32) = y := fun y h => by
    rw [displacement0_apply, displacement1_apply, displacement2_apply]; exact h
  generalize hl : len (fun c => k0_pay5 x cell (ix3 i c j)) = l
  have el := el l hl
  show Scalar.select (IntOp.cmpi .sge (BitVec.ofNat 32 (0 * 56 + j.val)) 50#32) (lit 0x4E6E6B28#32)
    (Scalar.select (IntOp.cmpi .eq (BitVec.ofNat 32 (0 * 50 + i.val)) (BitVec.ofNat 32 (0 * 56 + j.val)))
      (Ideal.sqrt (((k0_pay6 x cell (ix2 i j) * k0_pay6 x cell (ix2 i j) + k0_pay7 x cell (ix2 i j) * k0_pay7 x cell (ix2 i j))
        + k0_pay8 x cell (ix2 i j) * k0_pay8 x cell (ix2 i j)) + lit 0x2B8CBCCC#32) + lit 0x49742400#32)
      (Ideal.sqrt (((k0_pay6 x cell (ix2 i j) * k0_pay6 x cell (ix2 i j) + k0_pay7 x cell (ix2 i j) * k0_pay7 x cell (ix2 i j))
        + k0_pay8 x cell (ix2 i j) * k0_pay8 x cell (ix2 i j)) + lit 0x2B8CBCCC#32))) = _
  rw [el]
  have h1 : ∀ j : Fin 56, IntOp.cmpi .sge (BitVec.ofNat 32 (0 * 56 + j.val)) 50#32 = BitVec.ofBool (decide (50 ≤ j.val)) := by
    decide +kernel
  have h2 : ∀ (i : Fin 50) (j : Fin 56), IntOp.cmpi .eq (BitVec.ofNat 32 (0 * 50 + i.val)) (BitVec.ofNat 32 (0 * 56 + j.val))
      = BitVec.ofBool (decide (i.val = j.val)) := by decide +kernel
  rw [h1, h2]
  by_cases ha : 50 ≤ j.val <;> by_cases hb : i.val = j.val <;> simp [ha, hb, Scalar.select]

/-- The mask is one at the places with fewer than thirty-two strictly smaller distances in their row. -/
theorem mask_apply (d : FVec Ideal S50x56 .f32) (i : Fin 50) (k : Fin 56) :
    k0_pay11 d (shapeCast S50x56x1 d shapeCasts_S50x56_S50x56x1) (ix2 i k) = mask (fun j => d (ix2 i j)) k := by
  have er : multiReduction .add [1] S50x56 (sitofp (F := Ideal) .f32 (extui 32 (cmpf .olt (broadcastTo S50x56x56
      (shapeCast S50x56x1 d shapeCasts_S50x56_S50x56x1) broadcasts_S50x56x1_S50x56x56) (broadcastTo S50x56x56
      (shapeCast S50x1x56 d shapeCasts_S50x56_S50x1x56) broadcasts_S50x1x56_S50x56x56)) natLt_1_32)) 0x00000000#32
      reduces_S50x56x56_S50x56 (.inl rfl) rfl (ix2 i k) = rank (fun j => d (ix2 i j)) k := by
    refine (sum_axis1_three _ _ _ _ i k).trans (Finset.sum_congr rfl fun j _ => ?_)
    rw [sitofp_apply, extui_apply, cmpf_apply, spread_last, spread_mid, cast_ab_ab1, cast_ab_a1b]
    exact bit_number _
  unfold mask
  rw [← er, ← lit_32]
  exact bit_number _

/-- One coordinate of the directions. -/
theorem direction_apply (v d : FVec Ideal S50x56 .f32) (i : Fin 50) (j : Fin 56) (h : 0 ≤ d (ix2 i j)) :
    k0_pay13 v d (ix2 i j) = Ideal.div (v (ix2 i j)) (d (ix2 i j) + lit 0x3089705F#32) :=
  mul_one_div (v (ix2 i j)) (add_small_ne_zero h)

/-- The embedding of the distances. -/
theorem embeddings_apply (d : FVec Ideal S50x56 .f32) (w : Vec Ideal S64x128 .f32) (i : Fin 50) (j : Fin 56) (f : Fin 128) :
    k0_pay16 d w (ix2 (pair i j) f) = edge (fun r f => w (ix2 r f)) (d (ix2 i j)) f := by
  have e : FloatOps.matmul (φ₂ := .f32) (DotDims.plain 2800 64 128) none (shapeCast S2800x64 (exp (mulf (broadcast S50x56x64
      (Scalar.ofBits .f32 0xC1200000#32 : Ideal .f32)) (mulf
        (subf (broadcastTo S50x56x64 (shapeCast S50x56x1 d shapeCasts_S50x56_S50x56x1) broadcasts_S50x56x1_S50x56x64)
          (broadcastTo S50x56x64 (mulf (sitofp .f32 (iota .tc S1x1x64 32 [2] iota_S1x1x64_d2_w32)) (broadcast S1x1x64
            (Named.named (F := Ideal) κ "step" 0x3DA28A29#32 : Ideal .f32))) broadcasts_S1x1x64_S50x56x64))
        (subf (broadcastTo S50x56x64 (shapeCast S50x56x1 d shapeCasts_S50x56_S50x56x1) broadcasts_S50x56x1_S50x56x64)
          (broadcastTo S50x56x64 (mulf (sitofp .f32 (iota .tc S1x1x64 32 [2] iota_S1x1x64_d2_w32)) (broadcast S1x1x64
            (Named.named (F := Ideal) κ "step" 0x3DA28A29#32 : Ideal .f32))) broadcasts_S1x1x64_S50x56x64)))))
        shapeCasts_S50x56x64_S2800x64) w (constant S2800x128 .f32 0x00000000#32) (ix2 (pair i j) f)
      = ∑ r : Fin 64, radial (d (ix2 i j)) r * w (ix2 r f) := by
    rw [matmul_zero_ix]
    refine Finset.sum_congr rfl fun r _ => congrArg (· * _) ?_
    rw [cast_abc_rows _ _ (pair i j) i j r rfl]
    have ec : subf (broadcastTo S50x56x64 (shapeCast S50x56x1 d shapeCasts_S50x56_S50x56x1) broadcasts_S50x56x1_S50x56x64)
          (broadcastTo S50x56x64 (mulf (sitofp .f32 (iota .tc S1x1x64 32 [2] iota_S1x1x64_d2_w32)) (broadcast S1x1x64
            (Named.named (F := Ideal) κ "step" 0x3DA28A29#32 : Ideal .f32))) broadcasts_S1x1x64_S50x56x64) (ix3 i j r)
        = d (ix2 i j) - centre r := by
      rw [subf_apply, spread_last, cast_ab_ab1, spread_two, mulf_apply, broadcast_apply,
        IdealRules.named_const.ideal_named_scalar _ _ _ _ rfl]
      refine congrArg (d (ix2 i j) - ·) (congrArg (· * _) ?_)
      show ((((BitVec.ofNat 32 (0 * 64 + r.val)).toInt : ℝ)) : EReal) = ((r.val : ℝ) : EReal)
      have : ∀ r : Fin 64, (BitVec.ofNat 32 (0 * 64 + r.val)).toInt = (r.val : ℤ) := by decide +kernel
      rw [this]; rfl
    unfold radial
    rw [← ec]
    rfl
  unfold edge
  rw [← e, ← sil_tanh]
  rfl

/-- The states at the start. -/
theorem start_apply (z : Vec Ideal S1x50x128 .f32) (w : Vec Ideal S128x128 .f32) (i : Fin 50) (f : Fin 128) :
    k0_pay18 (k0_pay17 z) w (ix2 i f) = ∑ g : Fin 128, z (ix3 (0 : Fin 1) i g) * w (ix2 g f) := by
  unfold k0_pay18 k0_pay17
  refine (matmul_zero_ix none _ _ i f).trans (Finset.sum_congr rfl fun g _ => ?_)
  rw [shapeCast_1ab_ab_apply]

end Crystal

end
-- ==== Proof.Crystal.Body.lean ====
module

public import proofs.«01_k».proof.Proof.Crystal.Start

/-! The rounds of the kernel's body against the mathematics of one crystal, from what the body has before them. -/

@[expose] public section

noncomputable section

namespace Crystal

open Idealize.ShloMosaic Idealize.ShloMosaic.ValueIdx Cert.KernelIdeal Cert.KernelIdeal.Gen

/-- What the body has of a crystal when its rounds begin: the mask selects the nearest neighbours, and directions,
    displacements and embeddings are the crystal's at the real pairs. -/
structure Ready (A : Data) (mask : FVec Ideal S50x56 .f32) (u0 u1 u2 v0 v1 v2 : FVec Ideal S50x56 .f32)
    (e : FVec Ideal S2800x128 .f32) : Prop where
  sel : ∀ (i : Fin 50) (g : Fin 56 → EReal), ∑ j : Fin 56, g j * mask (ix2 i j) = ∑ k : Fin 32, g (pad (A.nb i k))
  unit : ∀ (c : Fin 3) (i j : Fin 50), (![u0, u1, u2] c) (ix2 i (pad j)) = A.unit i j c
  vec : ∀ (c : Fin 3) (i j : Fin 50), (![v0, v1, v2] c) (ix2 i (pad j)) = A.vec i j c
  emb : ∀ (i j : Fin 50) (f : Fin 128), e (ix2 (pair i (pad j)) f) = A.emb i j f

section
variable {A : Data} {mask u0 u1 u2 v0 v1 v2 : FVec Ideal S50x56 .f32} {e : FVec Ideal S2800x128 .f32}

/-- The messages of a round. -/
theorem Ready.message (R : Ready A mask u0 u1 u2 v0 v1 v2 e) (t : Fin 3) (H : Fin 50 → Fin 128 → EReal)
    {h : FVec Ideal S50x128 .f32} {w : Vec Ideal S1x256x128 .f32} {b : Vec Ideal S1x128 .f32}
    (hh : ∀ i f, h (ix2 i f) = H i f) (hw : ∀ r f, w (ix3 (0 : Fin 1) r f) = A.wmsg t r f)
    (hb : ∀ f, b (ix2 (0 : Fin 1) f) = A.bmsg t f) (i j : Fin 50) (f : Fin 128) :
    k0_pay44 e h w b (ix3 i (pad j) f) = A.message t H i j f := by
  rw [messages_apply]
  unfold Data.message
  congr 1
  · funext r f; exact hw r f
  · funext f; exact hb f
  · funext g; exact hh j g
  · funext g; exact R.emb i j g

/-- The states after a round. -/
theorem Ready.update (R : Ready A mask u0 u1 u2 v0 v1 v2 e) (t : Fin 3) (H : Fin 50 → Fin 128 → EReal)
    {h : FVec Ideal S50x128 .f32} {w : Vec Ideal S1x256x128 .f32} {b : Vec Ideal S1x128 .f32} {q : Vec Ideal S1x128x128 .f32}
    (hh : ∀ i f, h (ix2 i f) = H i f) (hw : ∀ r f, w (ix3 (0 : Fin 1) r f) = A.wmsg t r f)
    (hb : ∀ f, b (ix2 (0 : Fin 1) f) = A.bmsg t f) (hq : ∀ g f, q (ix3 (0 : Fin 1) g f) = A.wupd t g f)
    (i : Fin 50) (f : Fin 128) :
    k0_pay46 h (k0_pay45 mask e h w b) q (ix2 i f) = A.update t H i f := by
  rw [states_apply, hh]
  unfold Data.update
  refine congrArg (H i f + Ideal.tanh ·) (Finset.sum_congr rfl fun g _ => ?_)
  rw [hq, gathered_apply, R.sel i fun j => k0_pay44 e h w b (ix3 i j g)]
  exact congrArg (· * _) (Finset.sum_congr rfl fun k _ => R.message t H hh hw hb i _ g)

/-- The places after a round. -/
theorem Ready.step (R : Ready A mask u0 u1 u2 v0 v1 v2 e) (t : Fin 3) (X : Fin 50 → Fin 3 → EReal)
    {inv : FVec Ideal S3x3 .f32} {x : FVec Ideal S50x3 .f32} {m : FVec Ideal S50x56x128 .f32} {w : Vec Ideal S128x2 .f32}
    (hx : ∀ i c, x (ix2 i c) = X i c) (hi : ∀ d c, inv (ix2 d c) = A.inv d c) (hw : ∀ f, w (ix2 f (0 : Fin 2)) = A.wf f)
    (hm : ∀ i j f, m (ix3 i (pad j) f) = A.message t (A.state t) i j f) (i : Fin 50) (c : Fin 3) :
    k0_pay49 inv mask u0 u1 u2 x m w (ix2 i c) = A.step t X i c := by
  rw [places_apply, hx]
  unfold Data.step
  refine congrArg (X i c + ·) (Finset.sum_congr rfl fun d _ => ?_)
  rw [hi]
  refine congrArg (· * _) ?_
  unfold Data.move
  have e1 : ∀ j : Fin 56, ((∑ f : Fin 128, m (ix3 i j f) * w (ix2 f (0 : Fin 2))) * mask (ix2 i j))
      * (![u0, u1, u2] d) (ix2 i j) = ((∑ f : Fin 128, m (ix3 i j f) * w (ix2 f (0 : Fin 2)))
        * (![u0, u1, u2] d) (ix2 i j)) * mask (ix2 i j) := fun j => mul_right_comm _ _ _
  simp only [e1]
  rw [R.sel i fun j => (∑ f : Fin 128, m (ix3 i j f) * w (ix2 f (0 : Fin 2))) * (![u0, u1, u2] d) (ix2 i j)]
  refine Finset.sum_congr rfl fun k _ => ?_
  rw [R.unit]
  refine congrArg (· * _) ?_
  unfold Data.pull
  exact Finset.sum_congr rfl fun f _ => by rw [hm, hw]

/-- What a round adds to the stress. -/
theorem Ready.tension (R : Ready A mask u0 u1 u2 v0 v1 v2 e) (t : Fin 3) {m : FVec Ideal S50x56x128 .f32}
    {w : Vec Ideal S128x2 .f32} (hw : ∀ f, w (ix2 f (1 : Fin 2)) = A.ws f)
    (hm : ∀ i j f, m (ix3 i (pad j) f) = A.message t (A.state t) i j f) (c d : Fin 3) (k : S1x1.Idx) :
    paired (mulf (k0_pay48 mask m w) (![u0, u1, u2] c)) (![v0, v1, v2] d) k = A.tension t c d := by
  rw [paired_apply]
  unfold Data.tension
  refine Finset.sum_congr rfl fun i _ => ?_
  have e1 : ∀ j : Fin 56, mulf (k0_pay48 mask m w) (![u0, u1, u2] c) (ix2 i j) * (![v0, v1, v2] d) (ix2 i j)
      = (((∑ f : Fin 128, m (ix3 i j f) * w (ix2 f (1 : Fin 2))) * (![u0, u1, u2] c) (ix2 i j))
        * (![v0, v1, v2] d) (ix2 i j)) * mask (ix2 i j) := fun j => by
    rw [mulf_apply, pulls_stress_apply, mul_right_comm _ (mask (ix2 i j)), mul_right_comm _ (mask (ix2 i j))]
  simp only [e1]
  rw [R.sel i fun j => ((∑ f : Fin 128, m (ix3 i j f) * w (ix2 f (1 : Fin 2))) * (![u0, u1, u2] c) (ix2 i j))
        * (![v0, v1, v2] d) (ix2 i j)]
  refine Finset.sum_congr rfl fun k _ => ?_
  rw [R.unit, R.vec]
  refine congrArg (· * _) (congrArg (· * _) ?_)
  unfold Data.pull
  exact Finset.sum_congr rfl fun f _ => by rw [hm, hw]

end

/-! ## The printed rounds are one round three times -/

section
variable (s : FVec Ideal S3x3 .f32) (mask u0 u1 u2 v0 v1 v2 : FVec Ideal S50x56 .f32) (e : FVec Ideal S2800x128 .f32)
  (z h : FVec Ideal S50x128 .f32) (win : Vec Ideal S128x128 .f32) (w : Vec Ideal S1x256x128 .f32) (b : Vec Ideal S1x128 .f32)
  (q : Vec Ideal S1x128x128 .f32) (inv : FVec Ideal S3x3 .f32) (x : FVec Ideal S50x3 .f32) (f : Vec Ideal S128x2 .f32)
  (m : FVec Ideal S50x56x128 .f32)

/-- What a round adds to the stress, before it is made symmetric. -/
def pairs (c d : Fin 3) : FVec Ideal S1x1 .f32 :=
  paired (mulf (k0_pay48 mask m f) (![u0, u1, u2] c)) (![v0, v1, v2] d)

/-- The first round's states. -/
theorem first_states : k0_pay21 mask e z win w b q
    = k0_pay46 (k0_pay18 z win) (k0_pay45 mask e (k0_pay18 z win) w b) q := rfl

/-- The first round's places. -/
theorem first_places : k0_pay25 x inv mask u0 u1 u2 (k0_pay22 e z win w b f)
    = k0_pay49 inv mask u0 u1 u2 x (k0_pay44 e (k0_pay18 z win) w b) f := rfl

/-- The third round's places. -/
theorem third_places : k0_pay71 inv mask u0 u1 u2 x (k0_pay67 e h w b) (k0_pay68 e h w b) f
    = k0_pay49 inv mask u0 u1 u2 x (k0_pay44 e h w b) f := rfl

/-- The first round's stress. -/
theorem first_stress (g : FVec Ideal S2800x2 .f32) (hg : g = k0_pay22 e z win w b f) :
    k0_pay43 s (k0_pay32 v2 mask u0 g) (k0_pay35 v2 (k0_pay28 mask u1 g)) (k0_pay36 v0 (k0_pay29 mask u2 g))
      (k0_pay37 v1 (k0_pay29 mask u2 g)) (k0_pay38 v2 (k0_pay29 mask u2 g))
      (k0_pay39 v0 (k0_pay29 mask u2 g) (k0_pay30 v0 mask u0 g) (k0_pay31 v1 mask u0 g) (k0_pay32 v2 mask u0 g)
        (k0_pay33 v0 mask u1 g))
      (k0_pay40 (k0_pay31 v1 mask u0 g) (k0_pay33 v0 mask u1 g)) (k0_pay41 v1 (k0_pay28 mask u1 g))
      (k0_pay42 v1 v2 (k0_pay28 mask u1 g) (k0_pay29 mask u2 g))
    = tensed s (pairs mask u0 u1 u2 v0 v1 v2 f (k0_pay44 e (k0_pay18 z win) w b)) := by
  subst hg; rfl

/-- The second round's stress. -/
theorem second_stress :
    k0_pay66 s (k0_pay56 (k0_pay55 v1 mask u0 m f)) (k0_pay57 v2 (k0_pay51 mask u0 m f)) (k0_pay58 v0 (k0_pay52 mask u1 m f))
      (k0_pay59 v1 (k0_pay52 mask u1 m f)) (k0_pay60 v2 (k0_pay52 mask u1 m f)) (k0_pay61 v0 (k0_pay53 mask u2 m f))
      (k0_pay62 v1 (k0_pay53 mask u2 m f)) (k0_pay63 v2 (k0_pay53 mask u2 m f)) (k0_pay64 (k0_pay54 v0 mask u0 m f))
      (k0_pay65 v0 (k0_pay52 mask u1 m f) (k0_pay55 v1 mask u0 m f))
    = tensed s (pairs mask u0 u1 u2 v0 v1 v2 f m) := rfl

/-- The third round's stress. -/
theorem third_stress (p r : FVec Ideal S50x56x128 .f32) (hp : p = k0_pay67 e h w b) (hr : r = k0_pay68 e h w b) :
    k0_pay2 s (k0_pay78 (k0_pay77 v1 mask u0 p r f)) (k0_pay79 v2 (k0_pay73 mask u0 p r f)) (k0_pay80 v0 (k0_pay74 mask u1 p r f))
      (k0_pay81 v1 (k0_pay74 mask u1 p r f)) (k0_pay82 v2 (k0_pay74 mask u1 p r f)) (k0_pay83 v0 (k0_pay75 mask u2 p r f))
      (k0_pay84 v1 (k0_pay75 mask u2 p r f)) (k0_pay85 v2 (k0_pay75 mask u2 p r f)) (k0_pay86 (k0_pay76 v0 mask u0 p r f))
      (k0_pay87 v0 (k0_pay74 mask u1 p r f) (k0_pay77 v1 mask u0 p r f))
    = shapeCast S1x3x3 (tensed s (pairs mask u0 u1 u2 v0 v1 v2 f (k0_pay44 e h w b))) shapeCasts_S3x3_S1x3x3 := by
  subst hp hr; rfl

end

end Crystal

end
-- ==== Proof.Crystal.Block.lean ====
module

public import proofs.«01_k».proof.Proof.Crystal.Body
public import proofs.«01_k».proof.Proof.Gen.KernelIdeal.Frame

/-! What the kernel's body leaves in its output blocks, against the mathematics of one crystal. -/

@[expose] public section

noncomputable section

namespace Crystal

open Idealize.ShloMosaic Idealize.ShloMosaic.ValueIdx Cert.KernelIdeal Cert.KernelIdeal.Gen

/-- No atom has its thirty-second and thirty-third neighbour at one distance, and the thirty-second is not beyond 1e9. -/
def Data.Near (A : Data) : Prop := ∀ i : Fin 50,
  A.dist i (order (A.dist i) 31) < A.dist i (order (A.dist i) 32)
    ∧ A.dist i (order (A.dist i) 31) < lit 0x4E6E6B28#32

/-- A distance is not negative. -/
theorem Data.dist_nonneg (A : Data) (i j : Fin 50) : 0 ≤ A.dist i j := by
  unfold Data.dist
  split_ifs
  · exact add_nonneg (len_nonneg _) lit_million_nonneg
  · exact len_nonneg _

section
variable (x0 x1 : Vec Ideal S1x3x3 .f32) (x2 : Vec Ideal S1x50x3 .f32) (x3 : Vec Ideal S1x50x128 .f32)
  (x4 : Vec Ideal S128x128 .f32) (x5 : Vec Ideal S64x128 .f32) (x6 : Vec Ideal S3x256x128 .f32) (x7 : Vec Ideal S3x128 .f32)
  (x8 : Vec Ideal S3x128x128 .f32) (x9 : Vec Ideal S128x2 .f32)

/-- The crystal that the input blocks hold. -/
def blockData : Data where
  cell d c := x0 (ix3 (0 : Fin 1) d c)
  inv d c := x1 (ix3 (0 : Fin 1) d c)
  x i c := x2 (ix3 (0 : Fin 1) i c)
  z i f := x3 (ix3 (0 : Fin 1) i f)
  win g f := x4 (ix2 g f)
  wedge r f := x5 (ix2 r f)
  wmsg t r f := x6 (ix3 t r f)
  bmsg t f := x7 (ix2 t f)
  wupd t g f := x8 (ix3 t g f)
  wf f := x9 (ix2 f (0 : Fin 2))
  ws f := x9 (ix2 f (1 : Fin 2))

/-- The displacements at real pairs are the crystal's. -/
theorem displaced (i j : Fin 50) (c : Fin 3) :
    k0_pay5 x2 x0 (ix3 i c (pad j)) = (blockData x0 x1 x2 x3 x4 x5 x6 x7 x8 x9).vec i j c :=
  displacements_apply x2 x0 i j c

/-- The distances at real pairs are the crystal's. -/
theorem distanced (i j : Fin 50) :
    k0_pay9 x2 x0 (ix2 i (pad j)) = (blockData x0 x1 x2 x3 x4 x5 x6 x7 x8 x9).dist i j := by
  rw [distances_apply, if_neg (by simp [pad])]
  have hv : (fun c => k0_pay5 x2 x0 (ix3 i c (pad j))) = (blockData x0 x1 x2 x3 x4 x5 x6 x7 x8 x9).vec i j :=
    funext fun c => displaced x0 x1 x2 x3 x4 x5 x6 x7 x8 x9 i j c
  rw [hv]
  unfold Data.dist
  by_cases h : i = j
  · rw [if_pos h, if_pos (show i.val = (pad j).val by rw [h]; rfl)]
  · rw [if_neg h, if_neg (show ¬ i.val = (pad j).val from fun h' => h (Fin.ext h'))]

/-- When the rounds begin the body has what they need. -/
theorem ready (hn : (blockData x0 x1 x2 x3 x4 x5 x6 x7 x8 x9).Near) :
    Ready (blockData x0 x1 x2 x3 x4 x5 x6 x7 x8 x9)
      (k0_pay11 (k0_pay9 x2 x0) (k0_pay10 x2 x0))
      (k0_pay13 (k0_pay6 x2 x0) (k0_pay9 x2 x0)) (k0_pay14 (k0_pay7 x2 x0) (k0_pay9 x2 x0))
      (k0_pay15 (k0_pay8 x2 x0) (k0_pay9 x2 x0)) (k0_pay6 x2 x0) (k0_pay7 x2 x0) (k0_pay8 x2 x0)
      (k0_pay16 (k0_pay9 x2 x0) x5) := by
  have hvec : ∀ (c : Fin 3) (i j : Fin 50), (![k0_pay6 x2 x0, k0_pay7 x2 x0, k0_pay8 x2 x0] c) (ix2 i (pad j))
      = (blockData x0 x1 x2 x3 x4 x5 x6 x7 x8 x9).vec i j c := fun c i j => by
    match c with
    | ⟨0, _⟩ => exact (displacement0_apply _ _ _ _).trans (displaced x0 x1 x2 x3 x4 x5 x6 x7 x8 x9 i j 0)
    | ⟨1, _⟩ => exact (displacement1_apply _ _ _ _).trans (displaced x0 x1 x2 x3 x4 x5 x6 x7 x8 x9 i j 1)
    | ⟨2, _⟩ => exact (displacement2_apply _ _ _ _).trans (displaced x0 x1 x2 x3 x4 x5 x6 x7 x8 x9 i j 2)
  have hd := distanced x0 x1 x2 x3 x4 x5 x6 x7 x8 x9
  refine ⟨fun i g => ?_, fun c i j => ?_, hvec, fun i j f => ?_⟩
  · have hm : ∀ j, k0_pay11 (k0_pay9 x2 x0) (k0_pay10 x2 x0) (ix2 i j) = mask (fun j => k0_pay9 x2 x0 (ix2 i j)) j :=
      fun j => mask_apply (k0_pay9 x2 x0) i j
    have hout : ∀ j : Fin 56, 50 ≤ j.val → k0_pay9 x2 x0 (ix2 i j) = lit 0x4E6E6B28#32 := fun j hj => by
      rw [distances_apply, if_pos hj]
    simp only [hm]
    exact (sum_mask _ _ _ (hd i) hout (hn i).1 (hn i).2 g).trans
      (sum_mask_atoms _ _ _ (hd i) hout (hn i).1 (hn i).2 fun j => g (pad j))
  · have hu : (![k0_pay13 (k0_pay6 x2 x0) (k0_pay9 x2 x0), k0_pay14 (k0_pay7 x2 x0) (k0_pay9 x2 x0),
        k0_pay15 (k0_pay8 x2 x0) (k0_pay9 x2 x0)] c)
        = k0_pay13 (![k0_pay6 x2 x0, k0_pay7 x2 x0, k0_pay8 x2 x0] c) (k0_pay9 x2 x0) := by
      match c with
      | ⟨0, _⟩ => rfl
      | ⟨1, _⟩ => rfl
      | ⟨2, _⟩ => rfl
    rw [hu, direction_apply _ _ _ _ (by rw [hd]; exact Data.dist_nonneg _ _ _), hvec, hd]
    rfl
  · rw [embeddings_apply, hd]
    rfl

/-- A rectangle that is the whole of its shape reads everything. -/
theorem whole3 {a b c : ℕ} {off : Fin 3 → ℕ} (h : ∀ k, off k = 0)
    (inb : ∀ k, off k + (⟨3, ![a, b, c]⟩ : Shape).size k ≤ (⟨3, ![a, b, c]⟩ : Shape).size k)
    (X : Vec Ideal ⟨3, ![a, b, c]⟩ .f32) :
    View.ld X (Rect.unit (s := ⟨3, ![a, b, c]⟩) off (⟨3, ![a, b, c]⟩ : Shape).size inb) = X :=
  View.ld_unit_zero (funext h) inb X

/-- The same of a matrix. -/
theorem whole2 {a b : ℕ} {off : Fin 2 → ℕ} (h : ∀ k, off k = 0)
    (inb : ∀ k, off k + (⟨2, ![a, b]⟩ : Shape).size k ≤ (⟨2, ![a, b]⟩ : Shape).size k)
    (X : Vec Ideal ⟨2, ![a, b]⟩ .f32) :
    View.ld X (Rect.unit (s := ⟨2, ![a, b]⟩) off (⟨2, ![a, b]⟩ : Shape).size inb) = X :=
  View.ld_unit_zero (funext h) inb X

/-- One member of a stack of matrices. -/
theorem member3 {n a b : ℕ} (o : Fin n) (off : Fin 3 → ℕ) (h0 : off 0 = o.val) (h1 : off 1 = 0) (h2 : off 2 = 0)
    (inb : ∀ k, off k + (⟨3, ![1, a, b]⟩ : Shape).size k ≤ (⟨3, ![n, a, b]⟩ : Shape).size k)
    (X : Vec Ideal ⟨3, ![n, a, b]⟩ .f32) (i : Fin a) (j : Fin b) :
    View.ld X (Rect.unit (s := ⟨3, ![n, a, b]⟩) off (⟨3, ![1, a, b]⟩ : Shape).size inb) (ix3 (0 : Fin 1) i j)
      = X (ix3 o i j) :=
  congrArg X (funext fun k => Fin.ext (match k with
    | ⟨0, _⟩ => by show off 0 + 1 * 0 = o.val; omega
    | ⟨1, _⟩ => by show off 1 + 1 * i.val = i.val; omega
    | ⟨2, _⟩ => by show off 2 + 1 * j.val = j.val; omega))

/-- One row of a matrix. -/
theorem member2 {n a : ℕ} (o : Fin n) (off : Fin 2 → ℕ) (h0 : off 0 = o.val) (h1 : off 1 = 0)
    (inb : ∀ k, off k + (⟨2, ![1, a]⟩ : Shape).size k ≤ (⟨2, ![n, a]⟩ : Shape).size k)
    (X : Vec Ideal ⟨2, ![n, a]⟩ .f32) (i : Fin a) :
    View.ld X (Rect.unit (s := ⟨2, ![n, a]⟩) off (⟨2, ![1, a]⟩ : Shape).size inb) (ix2 (0 : Fin 1) i)
      = X (ix2 o i) :=
  congrArg X (funext fun k => Fin.ext (match k with
    | ⟨0, _⟩ => by show off 0 + 1 * 0 = o.val; omega
    | ⟨1, _⟩ => by show off 1 + 1 * i.val = i.val; omega))

end

end Crystal

end
-- ==== Proof.Crystal.Outputs.lean ====
module

public import proofs.«01_k».proof.Proof.Crystal.Block

/-! The three output blocks of the kernel's body are the places, the trajectory and the stress of the crystal in its input
blocks. -/

@[expose] public section

noncomputable section

namespace Crystal

open Idealize.ShloMosaic Idealize.ShloMosaic.ValueIdx Cert.KernelIdeal Cert.KernelIdeal.Gen

/-- A matrix as the one member of a stack of stacks. -/
theorem cast_ab_11ab {α : Type} {a b : ℕ} (x : (⟨2, ![a, b]⟩ : Shape).Idx → α)
    (h : (⟨2, ![a, b]⟩ : Shape).ShapeCasts ⟨4, ![1, 1, a, b]⟩) (i : Fin a) (j : Fin b) :
    shapeCast ⟨4, ![1, 1, a, b]⟩ x h (ix4 (0 : Fin 1) (0 : Fin 1) i j) = x (ix2 i j) :=
  shapeCast_apply x h _ _ (by
    rw [Shape.rowMajor_val_four, Shape.rowMajor_val_two]
    show i.val * b + j.val = ((0 * 1 + 0) * a + i.val) * b + j.val
    simp)

section
variable (x0 x1 : Vec Ideal S1x3x3 .f32) (x2 : Vec Ideal S1x50x3 .f32) (x3 : Vec Ideal S1x50x128 .f32)
  (x4 : Vec Ideal S128x128 .f32) (x5 : Vec Ideal S64x128 .f32) (x6 : Vec Ideal S3x256x128 .f32) (x7 : Vec Ideal S3x128 .f32)
  (x8 : Vec Ideal S3x128x128 .f32) (x9 : Vec Ideal S128x2 .f32)

/-- The body's own values are what it needs when the rounds begin. -/
theorem body_ready (hn : (blockData x0 x1 x2 x3 x4 x5 x6 x7 x8 x9).Near) :
    Ready (blockData x0 x1 x2 x3 x4 x5 x6 x7 x8 x9) (k0_pay94 x0 x1 x2 x3 x4 x5 x6 x7 x8 x9)
      (k0_pay95 x0 x1 x2 x3 x4 x5 x6 x7 x8 x9) (k0_pay96 x0 x1 x2 x3 x4 x5 x6 x7 x8 x9)
      (k0_pay97 x0 x1 x2 x3 x4 x5 x6 x7 x8 x9) (k0_pay90 x0 x1 x2 x3 x4 x5 x6 x7 x8 x9)
      (k0_pay91 x0 x1 x2 x3 x4 x5 x6 x7 x8 x9) (k0_pay92 x0 x1 x2 x3 x4 x5 x6 x7 x8 x9)
      (k0_pay98 x0 x1 x2 x3 x4 x5 x6 x7 x8 x9) := by
  have a0 : View.ld x2 r0_0 = x2 := whole3 (by decide) _ x2
  have a1 : View.ld x0 r0_1 = x0 := whole3 (by decide) _ x0
  have a2 : View.ld x5 r0_2 = x5 := whole2 (by decide) _ x5
  have h := ready x0 x1 x2 x3 x4 x5 x6 x7 x8 x9 hn
  unfold k0_pay94 k0_pay95 k0_pay96 k0_pay97 k0_pay98 k0_pay90 k0_pay91 k0_pay92 k0_pay93
  rw [a0, a1, a2]
  exact h

/-- The states before the first round. -/
theorem body_state0 (i : Fin 50) (f : Fin 128) :
    k0_pay18 (k0_pay99 x0 x1 x2 x3 x4 x5 x6 x7 x8 x9) (View.ld x4 r0_4) (ix2 i f)
      = (blockData x0 x1 x2 x3 x4 x5 x6 x7 x8 x9).state 0 i f := by
  have a0 : View.ld x3 r0_3 = x3 := whole3 (by decide) _ x3
  have a1 : View.ld x4 r0_4 = x4 := whole2 (by decide) _ x4
  unfold k0_pay99
  rw [a0, a1]
  exact start_apply x3 x4 i f

variable (hn : (blockData x0 x1 x2 x3 x4 x5 x6 x7 x8 x9).Near)
include hn

/-- The first round's messages. -/
theorem body_message0 (i j : Fin 50) (f : Fin 128) :
    k0_pay44 (k0_pay98 x0 x1 x2 x3 x4 x5 x6 x7 x8 x9)
        (k0_pay18 (k0_pay99 x0 x1 x2 x3 x4 x5 x6 x7 x8 x9) (View.ld x4 r0_4)) (View.ld x6 r0_5) (View.ld x7 r0_6) (ix3 i (pad j) f)
      = (blockData x0 x1 x2 x3 x4 x5 x6 x7 x8 x9).message 0 ((blockData x0 x1 x2 x3 x4 x5 x6 x7 x8 x9).state 0) i j f :=
  (body_ready x0 x1 x2 x3 x4 x5 x6 x7 x8 x9 hn).message 0 _
    (h := k0_pay18 (k0_pay99 x0 x1 x2 x3 x4 x5 x6 x7 x8 x9) (View.ld x4 r0_4)) (w := View.ld x6 r0_5) (b := View.ld x7 r0_6)
    (body_state0 x0 x1 x2 x3 x4 x5 x6 x7 x8 x9)
    (member3 (0 : Fin 3) ![0, 0, 0] rfl rfl rfl _ x6) (member2 (0 : Fin 3) ![0, 0] rfl rfl _ x7) i j f

/-- The states before the second round. -/
theorem body_state1 (i : Fin 50) (f : Fin 128) :
    k0_pay100 x0 x1 x2 x3 x4 x5 x6 x7 x8 x9 (ix2 i f) = (blockData x0 x1 x2 x3 x4 x5 x6 x7 x8 x9).state 1 i f := by
  unfold k0_pay100
  rw [first_states]
  exact (body_ready x0 x1 x2 x3 x4 x5 x6 x7 x8 x9 hn).update 0 _
    (h := k0_pay18 (k0_pay99 x0 x1 x2 x3 x4 x5 x6 x7 x8 x9) (View.ld x4 r0_4)) (w := View.ld x6 r0_5) (b := View.ld x7 r0_6)
    (q := View.ld x8 r0_7) (body_state0 x0 x1 x2 x3 x4 x5 x6 x7 x8 x9)
    (member3 (0 : Fin 3) ![0, 0, 0] rfl rfl rfl _ x6) (member2 (0 : Fin 3) ![0, 0] rfl rfl _ x7) (member3 (0 : Fin 3) ![0, 0, 0] rfl rfl rfl _ x8) i f

/-- The second round's messages. -/
theorem body_message1 (i j : Fin 50) (f : Fin 128) :
    k0_pay108 x0 x1 x2 x3 x4 x5 x6 x7 x8 x9 (ix3 i (pad j) f)
      = (blockData x0 x1 x2 x3 x4 x5 x6 x7 x8 x9).message 1 ((blockData x0 x1 x2 x3 x4 x5 x6 x7 x8 x9).state 1) i j f :=
  (body_ready x0 x1 x2 x3 x4 x5 x6 x7 x8 x9 hn).message 1 _ (body_state1 x0 x1 x2 x3 x4 x5 x6 x7 x8 x9 hn)
    (member3 (1 : Fin 3) ![1, 0, 0] rfl rfl rfl _ x6) (member2 (1 : Fin 3) ![1, 0] rfl rfl _ x7) i j f

/-- The states before the third round. -/
theorem body_state2 (i : Fin 50) (f : Fin 128) :
    k0_pay109 x0 x1 x2 x3 x4 x5 x6 x7 x8 x9 (ix2 i f) = (blockData x0 x1 x2 x3 x4 x5 x6 x7 x8 x9).state 2 i f :=
  (body_ready x0 x1 x2 x3 x4 x5 x6 x7 x8 x9 hn).update 1 _ (body_state1 x0 x1 x2 x3 x4 x5 x6 x7 x8 x9 hn)
    (member3 (1 : Fin 3) ![1, 0, 0] rfl rfl rfl _ x6) (member2 (1 : Fin 3) ![1, 0] rfl rfl _ x7) (member3 (1 : Fin 3) ![1, 0, 0] rfl rfl rfl _ x8) i f

/-- The third round's messages. -/
theorem body_message2 (i j : Fin 50) (f : Fin 128) :
    k0_pay44 (k0_pay98 x0 x1 x2 x3 x4 x5 x6 x7 x8 x9) (k0_pay109 x0 x1 x2 x3 x4 x5 x6 x7 x8 x9) (View.ld x6 r0_14)
        (View.ld x7 r0_15) (ix3 i (pad j) f)
      = (blockData x0 x1 x2 x3 x4 x5 x6 x7 x8 x9).message 2 ((blockData x0 x1 x2 x3 x4 x5 x6 x7 x8 x9).state 2) i j f :=
  (body_ready x0 x1 x2 x3 x4 x5 x6 x7 x8 x9 hn).message 2 _ (body_state2 x0 x1 x2 x3 x4 x5 x6 x7 x8 x9 hn)
    (member3 (2 : Fin 3) ![2, 0, 0] rfl rfl rfl _ x6) (member2 (2 : Fin 3) ![2, 0] rfl rfl _ x7) i j f

omit hn in
/-- The inverse cell as the body holds it. -/
theorem body_inverse (d c : Fin 3) :
    k0_pay89 x0 x1 x2 x3 x4 x5 x6 x7 x8 x9 (ix2 d c) = (blockData x0 x1 x2 x3 x4 x5 x6 x7 x8 x9).inv d c := by
  have a0 : View.ld x1 r0_1 = x1 := whole3 (by decide) _ x1
  unfold k0_pay89
  rw [a0]
  exact inverse_of_block x1 d c

omit hn in
/-- The weights of force and stress as the body holds them. -/
theorem body_weights (f : Fin 128) (q : Fin 2) : View.ld x9 r0_8 (ix2 f q) = x9 (ix2 f q) :=
  congrFun (whole2 (by decide) _ x9 : View.ld x9 r0_8 = x9) _

/-- The places after the first round. -/
theorem body_place0 (i : Fin 50) (c : Fin 3) :
    k0_pay102 x0 x1 x2 x3 x4 x5 x6 x7 x8 x9 (ix2 i c) = (blockData x0 x1 x2 x3 x4 x5 x6 x7 x8 x9).place 0 i c := by
  have a0 : View.ld x2 r0_0 = x2 := whole3 (by decide) _ x2
  unfold k0_pay102 k0_pay101
  rw [first_places]
  refine (body_ready x0 x1 x2 x3 x4 x5 x6 x7 x8 x9 hn).step 0 _ (fun i c => ?_) (body_inverse x0 x1 x2 x3 x4 x5 x6 x7 x8 x9)
    (fun f => body_weights x9 f 0) (body_message0 x0 x1 x2 x3 x4 x5 x6 x7 x8 x9 hn) i c
  unfold k0_pay88
  rw [a0]
  exact places_of_block x2 i c

/-- The places after the second round. -/
theorem body_place1 (i : Fin 50) (c : Fin 3) :
    k0_pay110 x0 x1 x2 x3 x4 x5 x6 x7 x8 x9 (ix2 i c) = (blockData x0 x1 x2 x3 x4 x5 x6 x7 x8 x9).place 1 i c :=
  (body_ready x0 x1 x2 x3 x4 x5 x6 x7 x8 x9 hn).step 1 _ (body_place0 x0 x1 x2 x3 x4 x5 x6 x7 x8 x9 hn)
    (body_inverse x0 x1 x2 x3 x4 x5 x6 x7 x8 x9) (fun f => body_weights x9 f 0)
    (body_message1 x0 x1 x2 x3 x4 x5 x6 x7 x8 x9 hn) i c

/-- The places after the third round. -/
theorem body_place2 (i : Fin 50) (c : Fin 3) :
    k0_pay71 (k0_pay89 x0 x1 x2 x3 x4 x5 x6 x7 x8 x9) (k0_pay94 x0 x1 x2 x3 x4 x5 x6 x7 x8 x9)
        (k0_pay95 x0 x1 x2 x3 x4 x5 x6 x7 x8 x9) (k0_pay96 x0 x1 x2 x3 x4 x5 x6 x7 x8 x9)
        (k0_pay97 x0 x1 x2 x3 x4 x5 x6 x7 x8 x9) (k0_pay110 x0 x1 x2 x3 x4 x5 x6 x7 x8 x9)
        (k0_pay114 x0 x1 x2 x3 x4 x5 x6 x7 x8 x9) (k0_pay115 x0 x1 x2 x3 x4 x5 x6 x7 x8 x9) (View.ld x9 r0_8) (ix2 i c)
      = (blockData x0 x1 x2 x3 x4 x5 x6 x7 x8 x9).place 2 i c := by
  unfold k0_pay114 k0_pay115
  rw [third_places]
  exact (body_ready x0 x1 x2 x3 x4 x5 x6 x7 x8 x9 hn).step 2 _ (body_place1 x0 x1 x2 x3 x4 x5 x6 x7 x8 x9 hn)
    (body_inverse x0 x1 x2 x3 x4 x5 x6 x7 x8 x9) (fun f => body_weights x9 f 0)
    (body_message2 x0 x1 x2 x3 x4 x5 x6 x7 x8 x9 hn) i c

/-- The block of places. -/
theorem out_places (i : Fin 50) (c : Fin 3) :
    out0_10 x0 x1 x2 x3 x4 x5 x6 x7 x8 x9 (ix3 (0 : Fin 1) i c) = (blockData x0 x1 x2 x3 x4 x5 x6 x7 x8 x9).place 2 i c := by
  unfold out0_10
  rw [show ∀ w : Vec Ideal S1x50x3 .f32, View.canon [⟨r0_0, w⟩] = w from
    fun w => View.canon_cons_unit_zero (funext (by decide)) _ w []]
  exact (shapeCast_ab_1ab_apply _ _ 0 i c).trans (body_place2 x0 x1 x2 x3 x4 x5 x6 x7 x8 x9 hn i c)

/-- The trajectory's value at an index, as one function. -/
theorem out_trajectory (t : Fin 3) (i : Fin 50) (c : Fin 3) :
    out0_11 x0 x1 x2 x3 x4 x5 x6 x7 x8 x9 (ix4 t (0 : Fin 1) i c)
      = (blockData x0 x1 x2 x3 x4 x5 x6 x7 x8 x9).place t i c := by
  unfold out0_11
  refine View.canon_apply_of_pieces (Val := Elt Ideal) (e := .f32)
    (fun y : S3x1x50x3.Idx => (blockData x0 x1 x2 x3 x4 x5 x6 x7 x8 x9).place (y 0) (y 2) (y 3)) _ ?_ (ix4 t (0 : Fin 1) i c)
    (cover0_11 _ _ _ _)
  have piece : ∀ (o : Fin 3) (off : Fin 4 → ℕ) (h0 : off 0 = o.val) (h2 : off 2 = 0) (h3 : off 3 = 0)
      (inb : ∀ k, off k + S1x1x50x3.size k ≤ S3x1x50x3.size k) (v : FVec Ideal S50x3 .f32)
      (hv : ∀ i c, v (ix2 i c) = (blockData x0 x1 x2 x3 x4 x5 x6 x7 x8 x9).place o i c) (y : S1x1x50x3.Idx),
      shapeCast S1x1x50x3 v shapeCasts_S50x3_S1x1x50x3 y
        = (fun y : S3x1x50x3.Idx => (blockData x0 x1 x2 x3 x4 x5 x6 x7 x8 x9).place (y 0) (y 2) (y 3))
          ((Rect.unit (s := S3x1x50x3) off S1x1x50x3.size inb).emb y) := fun o off h0 h2 h3 inb v hv y => by
    have e0 : (Rect.unit (s := S3x1x50x3) off S1x1x50x3.size inb).emb y 0 = o := Fin.ext (by
      show off 0 + 1 * (y 0).val = o.val
      have : (y 0).val < 1 := (y 0).isLt
      omega)
    have e2 : (Rect.unit (s := S3x1x50x3) off S1x1x50x3.size inb).emb y 2 = y 2 := Fin.ext (by
      show off 2 + 1 * (y 2).val = (y 2).val
      omega)
    have e3 : (Rect.unit (s := S3x1x50x3) off S1x1x50x3.size inb).emb y 3 = y 3 := Fin.ext (by
      show off 3 + 1 * (y 3).val = (y 3).val
      omega)
    have hy : y = ix4 (0 : Fin 1) (0 : Fin 1) (y 2) (y 3) := by
      refine (eq_ix4 y).trans ?_
      have h0' : y 0 = (0 : Fin 1) := Fin.ext (by have : (y 0).val < 1 := (y 0).isLt; show (y 0).val = 0; omega)
      have h1' : y 1 = (0 : Fin 1) := Fin.ext (by have : (y 1).val < 1 := (y 1).isLt; show (y 1).val = 0; omega)
      rw [h0', h1']; rfl
    show _ = (blockData x0 x1 x2 x3 x4 x5 x6 x7 x8 x9).place _ _ _
    rw [e0, e2, e3]
    refine Eq.trans ?_ (hv (y 2) (y 3))
    exact (congrArg _ hy).trans (cast_ab_11ab v shapeCasts_S50x3_S1x1x50x3 (y 2) (y 3))
  intro pc hpc
  rcases List.mem_cons.mp hpc with rfl | hpc
  · exact piece 2 ![2, 0, 0, 0] rfl rfl rfl inb_S3x1x50x3_S1x1x50x3_2_0_0_0 _
      (body_place2 x0 x1 x2 x3 x4 x5 x6 x7 x8 x9 hn)
  rcases List.mem_cons.mp hpc with rfl | hpc
  · exact piece 1 ![1, 0, 0, 0] rfl rfl rfl inb_S3x1x50x3_S1x1x50x3_1_0_0_0 _
      (body_place1 x0 x1 x2 x3 x4 x5 x6 x7 x8 x9 hn)
  rcases List.mem_cons.mp hpc with rfl | hpc
  · exact piece 0 ![0, 0, 0, 0] rfl rfl rfl inb_S3x1x50x3_S1x1x50x3_0_0_0_0 _
      (body_place0 x0 x1 x2 x3 x4 x5 x6 x7 x8 x9 hn)
  nomatch hpc

/-- The block of stress. -/
theorem out_stress (c d : Fin 3) :
    out0_12 x0 x1 x2 x3 x4 x5 x6 x7 x8 x9 (ix3 (0 : Fin 1) c d) = (blockData x0 x1 x2 x3 x4 x5 x6 x7 x8 x9).stress c d := by
  have R := body_ready x0 x1 x2 x3 x4 x5 x6 x7 x8 x9 hn
  have hw : ∀ f, View.ld x9 r0_8 (ix2 f (1 : Fin 2)) = (blockData x0 x1 x2 x3 x4 x5 x6 x7 x8 x9).ws f :=
    fun f => body_weights x9 f 1
  have t0 := R.tension 0 hw (body_message0 x0 x1 x2 x3 x4 x5 x6 x7 x8 x9 hn)
  have t1 := R.tension 1 hw (body_message1 x0 x1 x2 x3 x4 x5 x6 x7 x8 x9 hn)
  have t2 := R.tension 2 hw (body_message2 x0 x1 x2 x3 x4 x5 x6 x7 x8 x9 hn)
  unfold out0_12
  rw [show ∀ w : Vec Ideal S1x3x3 .f32, View.canon [⟨r0_1, w⟩] = w from
    fun w => View.canon_cons_unit_zero (funext (by decide)) _ w []]
  unfold k0_pay103 k0_pay104 k0_pay105 k0_pay106 k0_pay107 k0_pay111 k0_pay112 k0_pay113 k0_pay116 k0_pay117 k0_pay118
  rw [first_stress (g := k0_pay101 x0 x1 x2 x3 x4 x5 x6 x7 x8 x9) (hg := rfl), second_stress,
    third_stress (p := k0_pay114 x0 x1 x2 x3 x4 x5 x6 x7 x8 x9)
      (r := k0_pay115 x0 x1 x2 x3 x4 x5 x6 x7 x8 x9) (hp := rfl) (hr := rfl)]
  refine (shapeCast_ab_1ab_apply _ _ 0 c d).trans ?_
  rw [tensed_apply, tensed_apply, tensed_apply]
  unfold pairs
  rw [t0, t0, t1, t1, t2, t2]
  have hz : k0_pay19 (F := Ideal) (ix2 c d) = 0 := Ideal.ofBits_zero_f32
  rw [hz, zero_add, ← half_add, ← half_add]
  unfold Data.stress
  exact congrArg (_ * ·) (by abel)

end

end Crystal

end
-- ==== Proof.Crystal.Given.lean ====
module

public import proofs.«01_k».proof.Proof.Crystal.Model
public import Idealize.ShloMosaic.Lib.ValueIdx

/-! The crystals of the arrays that both programs are given. -/

@[expose] public section

noncomputable section

namespace Crystal

open Idealize.ShloMosaic Idealize.ShloMosaic.ValueIdx

/-! ## The inverse of a matrix by its cofactors -/

/-- The cofactor of a three by three matrix at `p`, `q`. -/
def minor (A : Fin 3 → Fin 3 → EReal) (p q : Fin 3) : EReal :=
  A (p + 1) (q + 1) * A (p + 2) (q + 2) - A (p + 1) (q + 2) * A (p + 2) (q + 1)

/-- The determinant, along the first row. -/
def det3 (A : Fin 3 → Fin 3 → EReal) : EReal := (A 0 0 * minor A 0 0 + A 0 1 * minor A 0 1) + A 0 2 * minor A 0 2

/-- The inverse: the cofactors the other way round over the determinant. -/
def inverse (A : Fin 3 → Fin 3 → EReal) (p q : Fin 3) : EReal := Ideal.div (minor A q p) (det3 A)

/-! ## The crystals -/

/-- The row of atom `i` of crystal `b`. -/
def atom (b : Fin 200) (i : Fin 50) : Fin 10000 := ⟨50 * b.val + i.val, by omega⟩

variable (a0 : FVec Ideal ⟨3, ![200, 3, 3]⟩ .f32) (a1 : FVec Ideal ⟨2, ![10000, 3]⟩ .f32)
  (a2 : FVec Ideal ⟨2, ![10000, 128]⟩ .f32) (a4 : FVec Ideal ⟨2, ![128, 128]⟩ .f32) (a5 : FVec Ideal ⟨2, ![64, 128]⟩ .f32)
  (a6 : FVec Ideal ⟨3, ![3, 256, 128]⟩ .f32) (a7 : FVec Ideal ⟨2, ![3, 128]⟩ .f32) (a8 : FVec Ideal ⟨3, ![3, 128, 128]⟩ .f32)
  (a9 a10 : FVec Ideal ⟨2, ![128, 1]⟩ .f32)

/-- Crystal `b` of the arrays given, the inverse of its cell by cofactors. -/
def given (b : Fin 200) : Data where
  cell p q := a0 (ix3 b p q)
  inv := inverse fun p q => a0 (ix3 b p q)
  x i k := a1 (ix2 (atom b i) k)
  z i f := a2 (ix2 (atom b i) f)
  win g f := a4 (ix2 g f)
  wedge r f := a5 (ix2 r f)
  wmsg t r f := a6 (ix3 t r f)
  bmsg t f := a7 (ix2 t f)
  wupd t g f := a8 (ix3 t g f)
  wf f := a9 (ix2 f (0 : Fin 1))
  ws f := a10 (ix2 f (0 : Fin 1))

end Crystal

end
-- ==== Proof.Crystal.Prefix.lean ====
module

public import proofs.«01_k».proof.Proof.Crystal.Outputs
public import proofs.«01_k».proof.Proof.Crystal.Given
public import Idealize.ShloMosaic.Lib.StableHlo.RunRead

/-! What the host operations before the kernel's region leave in the arrays it reads. -/

@[expose] public section

noncomputable section

namespace Crystal

open Idealize.ShloMosaic Idealize.ShloMosaic.ValueIdx Cert.KernelIdeal Cert.KernelIdeal.Gen
open Idealize.ShloMosaic.TcCoe Idealize.SL.Sem

/-! ## Reading the layout operations -/

/-- One entry of every matrix of a stack, as a vector. -/
def entryOf {n : ℕ} (X : FVec Ideal ⟨3, ![n, 3, 3]⟩ .f32) (off : Fin 3 → ℕ)
    (h : (⟨3, ![n, 3, 3]⟩ : Shape).Slices off ⟨3, ![n, 1, 1]⟩) (hc : (⟨3, ![n, 1, 1]⟩ : Shape).ShapeCasts ⟨1, ![n]⟩) :
    FVec Ideal ⟨1, ![n]⟩ .f32 :=
  shapeCast ⟨1, ![n]⟩ (extractStridedSlice ⟨3, ![n, 1, 1]⟩ off X h) hc

/-- Its value. -/
theorem entryOf_apply {n : ℕ} (X : FVec Ideal ⟨3, ![n, 3, 3]⟩ .f32) (off : Fin 3 → ℕ)
    (h : (⟨3, ![n, 3, 3]⟩ : Shape).Slices off ⟨3, ![n, 1, 1]⟩) (hc : (⟨3, ![n, 1, 1]⟩ : Shape).ShapeCasts ⟨1, ![n]⟩)
    (p q : Fin 3) (h0 : off 0 = 0) (h1 : off 1 = p.val) (h2 : off 2 = q.val) (b : Fin n) :
    entryOf X off h hc (ix1 b) = X (ix3 b p q) :=
  (shapeCast_apply _ hc (ix1 b) (ix3 b (0 : Fin 1) (0 : Fin 1)) (by
    rw [Shape.rowMajor_val_three, Shape.rowMajor_val_one]
    show (b.val * 1 + 0) * 1 + 0 = b.val
    omega)).trans
  (extractStridedSlice_apply off X h _ _ fun a => match a with
    | ⟨0, _⟩ => by show b.val = off 0 + b.val; omega
    | ⟨1, _⟩ => by show p.val = off 1 + 0; omega
    | ⟨2, _⟩ => by show q.val = off 2 + 0; omega)

/-- Three vectors as the columns of a matrix. -/
theorem three_columns {n : ℕ} (x y z : FVec Ideal ⟨1, ![n]⟩ .f32) (hb : (⟨1, ![n]⟩ : Shape).BroadcastsInDim ⟨2, ![n, 1]⟩ ![0])
    (h : Shape.Concatenates [⟨2, ![n, 1]⟩, ⟨2, ![n, 1]⟩, ⟨2, ![n, 1]⟩] ⟨2, ![n, 3]⟩ 1) (b : Fin n) (q : Fin 3) :
    concatenate ⟨2, ![n, 3]⟩ 1 [⟨⟨2, ![n, 1]⟩, broadcastInDim ⟨2, ![n, 1]⟩ ![0] hb x⟩,
        ⟨⟨2, ![n, 1]⟩, broadcastInDim ⟨2, ![n, 1]⟩ ![0] hb y⟩, ⟨⟨2, ![n, 1]⟩, broadcastInDim ⟨2, ![n, 1]⟩ ![0] hb z⟩] h (ix2 b q)
      = (![x, y, z] q) (ix1 b) := by
  have hv : ∀ w : FVec Ideal ⟨1, ![n]⟩ .f32, broadcastInDim ⟨2, ![n, 1]⟩ ![0] hb w (ix2 b (0 : Fin 1)) = w (ix1 b) :=
    fun w => broadcastInDim_apply _ hb w _ _ fun a => match a with
      | ⟨0, _⟩ => by
        show b.val = if n = 1 then 0 else b.val
        split_ifs
        · omega
        · rfl
  refine (columns _ _ _ h b q).trans ?_
  match q with
  | ⟨0, _⟩ => exact hv x
  | ⟨1, _⟩ => exact hv y
  | ⟨2, _⟩ => exact hv z

/-- Three matrices as the middle members of a stack. -/
theorem three_rows {n k : ℕ} (x y z : FVec Ideal ⟨2, ![n, k]⟩ .f32)
    (hb : (⟨2, ![n, k]⟩ : Shape).BroadcastsInDim ⟨3, ![n, 1, k]⟩ ![0, 2])
    (h : Shape.Concatenates [⟨3, ![n, 1, k]⟩, ⟨3, ![n, 1, k]⟩, ⟨3, ![n, 1, k]⟩] ⟨3, ![n, 3, k]⟩ 1) (b : Fin n) (p : Fin 3)
    (q : Fin k) :
    concatenate ⟨3, ![n, 3, k]⟩ 1 [⟨⟨3, ![n, 1, k]⟩, broadcastInDim ⟨3, ![n, 1, k]⟩ ![0, 2] hb x⟩,
        ⟨⟨3, ![n, 1, k]⟩, broadcastInDim ⟨3, ![n, 1, k]⟩ ![0, 2] hb y⟩,
        ⟨⟨3, ![n, 1, k]⟩, broadcastInDim ⟨3, ![n, 1, k]⟩ ![0, 2] hb z⟩] h (ix3 b p q)
      = (![x, y, z] p) (ix2 b q) := by
  have hv : ∀ w : FVec Ideal ⟨2, ![n, k]⟩ .f32,
      broadcastInDim ⟨3, ![n, 1, k]⟩ ![0, 2] hb w (ix3 b (0 : Fin 1) q) = w (ix2 b q) :=
    fun w => broadcastInDim_apply _ hb w _ _ fun a => match a with
      | ⟨0, _⟩ => by
        show b.val = if n = 1 then 0 else b.val
        split_ifs
        · omega
        · rfl
      | ⟨1, _⟩ => by
        show q.val = if k = 1 then 0 else q.val
        split_ifs
        · omega
        · rfl
  refine (concatenate_ofFn_apply (t := ⟨3, ![n, 3, k]⟩) (s₁ := ⟨3, ![n, 1, k]⟩) 1
    ![broadcastInDim ⟨3, ![n, 1, k]⟩ ![0, 2] hb x, broadcastInDim ⟨3, ![n, 1, k]⟩ ![0, 2] hb y,
      broadcastInDim ⟨3, ![n, 1, k]⟩ ![0, 2] hb z] h rfl 1 rfl (ix3 b p q) p
    (Nat.div_one _) (ix3 b (0 : Fin 1) q) (Nat.mod_one _).symm fun a ha => match a with
    | ⟨0, _⟩ => rfl
    | ⟨1, _⟩ => absurd rfl ha
    | ⟨2, _⟩ => rfl).trans ?_
  match p with
  | ⟨0, _⟩ => exact hv x
  | ⟨1, _⟩ => exact hv y
  | ⟨2, _⟩ => exact hv z

/-- One number for every matrix of a stack, at all its entries. -/
theorem spread_matrix {n : ℕ} (x : FVec Ideal ⟨1, ![n]⟩ .f32) (h : (⟨1, ![n]⟩ : Shape).BroadcastsInDim ⟨3, ![n, 1, 1]⟩ ![0])
    (h' : (⟨3, ![n, 1, 1]⟩ : Shape).BroadcastsInDim ⟨3, ![n, 3, 3]⟩ ![0, 1, 2]) (b : Fin n) (p q : Fin 3) :
    broadcastInDim ⟨3, ![n, 3, 3]⟩ ![0, 1, 2] h' (broadcastInDim ⟨3, ![n, 1, 1]⟩ ![0] h x) (ix3 b p q) = x (ix1 b) :=
  (broadcastInDim_apply _ h' _ _ (ix3 b (0 : Fin 1) (0 : Fin 1)) fun a => match a with
    | ⟨0, _⟩ => by
      show b.val = if n = 1 then 0 else b.val
      split_ifs
      · omega
      · rfl
    | ⟨1, _⟩ => rfl
    | ⟨2, _⟩ => rfl).trans
  (broadcastInDim_apply _ h x _ _ fun a => match a with
    | ⟨0, _⟩ => by
      show b.val = if n = 1 then 0 else b.val
      split_ifs
      · omega
      · rfl)

/-! ## The arrays -/

variable (m : (ℓ : Loc nD τ sig) → Buf (Elt Ideal) ℓ) (c : Dev nD)

/-- The cell of crystal `b` as launched. -/
def cellOf (b : Fin 200) (p q : Fin 3) : EReal := m ((c : Thread nD τ).loc main_arg0) (ix3 b p q)

/-- The places as the region finds them. -/
theorem entry_places : V m c main_v0
    = shapeCast S200x50x3 (m ((c : Thread nD τ).loc main_arg1)) shapeCasts_S10000x3_S200x50x3 := by
  after_reads_simp
  rfl

/-- The features of the atoms as the region finds them. -/
theorem entry_features : V m c main_v1
    = shapeCast S200x50x128 (m ((c : Thread nD τ).loc main_arg2)) shapeCasts_S10000x128_S200x50x128 := by
  after_reads_simp
  rfl

/-- The weights of force and stress side by side. -/
theorem entry_weights : V m c main_v131
    = concatenate S128x2 1 [⟨S128x1, m ((c : Thread nD τ).loc main_arg9)⟩, ⟨S128x1, m ((c : Thread nD τ).loc main_arg10)⟩]
        concatenates_S128x1_S128x1_S128x2_d1 := by
  after_reads_simp
  rfl

/-- Two products of entries, one from the other. -/
theorem crossed (X : FVec Ideal S200x3x3 .f32) (b : Fin 200) (p q r s p' q' r' s' : Fin 3)
    {o1 o2 o3 o4 : Fin 3 → ℕ} (i1 : o1 0 = 0 ∧ o1 1 = p.val ∧ o1 2 = q.val) (i2 : o2 0 = 0 ∧ o2 1 = r.val ∧ o2 2 = s.val)
    (i3 : o3 0 = 0 ∧ o3 1 = p'.val ∧ o3 2 = q'.val) (i4 : o4 0 = 0 ∧ o4 1 = r'.val ∧ o4 2 = s'.val)
    (h1 : S200x3x3.Slices o1 S200x1x1) (h2 : S200x3x3.Slices o2 S200x1x1) (h3 : S200x3x3.Slices o3 S200x1x1)
    (h4 : S200x3x3.Slices o4 S200x1x1) (hc : S200x1x1.ShapeCasts S200) :
    subf (mulf (entryOf X o1 h1 hc) (entryOf X o2 h2 hc)) (mulf (entryOf X o3 h3 hc) (entryOf X o4 h4 hc)) (ix1 b)
      = X (ix3 b p q) * X (ix3 b r s) - X (ix3 b p' q') * X (ix3 b r' s') := by
  rw [subf_apply, mulf_apply, mulf_apply, entryOf_apply X o1 h1 hc p q i1.1 i1.2.1 i1.2.2,
    entryOf_apply X o2 h2 hc r s i2.1 i2.2.1 i2.2.2, entryOf_apply X o3 h3 hc p' q' i3.1 i3.2.1 i3.2.2,
    entryOf_apply X o4 h4 hc r' s' i4.1 i4.2.1 i4.2.2]

/-- The nine cofactors, each of them a difference of two products of entries. -/
theorem entry_minors (b : Fin 200) :
    V m c main_v12 (ix1 b) = minor (cellOf m c b) 0 0
      ∧ V m c main_v23 (ix1 b) = minor (cellOf m c b) 0 1
      ∧ V m c main_v34 (ix1 b) = minor (cellOf m c b) 0 2
      ∧ V m c main_v45 (ix1 b) = minor (cellOf m c b) 1 0
      ∧ V m c main_v56 (ix1 b) = minor (cellOf m c b) 1 1
      ∧ V m c main_v67 (ix1 b) = minor (cellOf m c b) 1 2
      ∧ V m c main_v78 (ix1 b) = minor (cellOf m c b) 2 0
      ∧ V m c main_v89 (ix1 b) = minor (cellOf m c b) 2 1
      ∧ V m c main_v100 (ix1 b) = minor (cellOf m c b) 2 2 := by
  have com : ∀ w x y z : EReal, w * x - y * z = x * w - z * y := fun w x y z => by rw [mul_comm w, mul_comm y]
  have X := crossed (m ((c : Thread nD τ).loc main_arg0)) b
  refine ⟨?_, ?_, ?_, ?_, ?_, ?_, ?_, ?_, ?_⟩ <;> after_reads_simp
  · exact X 1 1 2 2 1 2 2 1 (by decide) (by decide) (by decide) (by decide) _ _ _ _ _
  · exact X 1 2 2 0 1 0 2 2 (by decide) (by decide) (by decide) (by decide) _ _ _ _ _
  · exact X 1 0 2 1 1 1 2 0 (by decide) (by decide) (by decide) (by decide) _ _ _ _ _
  · exact (X 0 2 2 1 0 1 2 2 (by decide) (by decide) (by decide) (by decide) _ _ _ _ _).trans (com _ _ _ _)
  · exact (X 0 0 2 2 0 2 2 0 (by decide) (by decide) (by decide) (by decide) _ _ _ _ _).trans (com _ _ _ _)
  · exact (X 0 1 2 0 0 0 2 1 (by decide) (by decide) (by decide) (by decide) _ _ _ _ _).trans (com _ _ _ _)
  · exact X 0 1 1 2 0 2 1 1 (by decide) (by decide) (by decide) (by decide) _ _ _ _ _
  · exact X 0 2 1 0 0 0 1 2 (by decide) (by decide) (by decide) (by decide) _ _ _ _ _
  · exact X 0 0 1 1 0 1 1 0 (by decide) (by decide) (by decide) (by decide) _ _ _ _ _

/-- Three pieces put together, each of them replaced by an equal. -/
theorem three_pieces {α : Type} {t s₁ : Shape} {a : Fin t.rank} {x y z x' y' z' : s₁.Idx → α}
    (h : Shape.Concatenates [s₁, s₁, s₁] t a) (hx : x = x') (hy : y = y') (hz : z = z') :
    concatenate t a [⟨s₁, x⟩, ⟨s₁, y⟩, ⟨s₁, z⟩] h = concatenate t a [⟨s₁, x'⟩, ⟨s₁, y'⟩, ⟨s₁, z'⟩] h := by
  subst hx hy hz; rfl

/-- The first row of the cofactors the other way round. -/
theorem entry_row0 : V m c main_v115
    = concatenate S200x3 1 [⟨S200x1, broadcastInDim S200x1 ![0] bcast_S200_S200x1_0 (V m c main_v12)⟩,
        ⟨S200x1, broadcastInDim S200x1 ![0] bcast_S200_S200x1_0 (V m c main_v45)⟩,
        ⟨S200x1, broadcastInDim S200x1 ![0] bcast_S200_S200x1_0 (V m c main_v78)⟩]
        concatenates_S200x1_S200x1_S200x1_S200x3_d1 := by
  after_reads_simp
  refine three_pieces _ ?_ ?_ ?_
  · change StableHlo.upto hostOps0 (fun b => m (c, b)) 115 (Proc.devRef .tc main_v112) = _
    after_reads_simp
  · change StableHlo.upto hostOps0 (fun b => m (c, b)) 115 (Proc.devRef .tc main_v113) = _
    after_reads_simp
  · change StableHlo.upto hostOps0 (fun b => m (c, b)) 115 (Proc.devRef .tc main_v114) = _
    after_reads_simp

/-- The second row. -/
theorem entry_row1 : V m c main_v119
    = concatenate S200x3 1 [⟨S200x1, broadcastInDim S200x1 ![0] bcast_S200_S200x1_0 (V m c main_v23)⟩,
        ⟨S200x1, broadcastInDim S200x1 ![0] bcast_S200_S200x1_0 (V m c main_v56)⟩,
        ⟨S200x1, broadcastInDim S200x1 ![0] bcast_S200_S200x1_0 (V m c main_v89)⟩]
        concatenates_S200x1_S200x1_S200x1_S200x3_d1 := by
  after_reads_simp
  refine three_pieces _ ?_ ?_ ?_
  · change StableHlo.upto hostOps0 (fun b => m (c, b)) 119 (Proc.devRef .tc main_v116) = _
    after_reads_simp
  · change StableHlo.upto hostOps0 (fun b => m (c, b)) 119 (Proc.devRef .tc main_v117) = _
    after_reads_simp
  · change StableHlo.upto hostOps0 (fun b => m (c, b)) 119 (Proc.devRef .tc main_v118) = _
    after_reads_simp

/-- The third row. -/
theorem entry_row2 : V m c main_v123
    = concatenate S200x3 1 [⟨S200x1, broadcastInDim S200x1 ![0] bcast_S200_S200x1_0 (V m c main_v34)⟩,
        ⟨S200x1, broadcastInDim S200x1 ![0] bcast_S200_S200x1_0 (V m c main_v67)⟩,
        ⟨S200x1, broadcastInDim S200x1 ![0] bcast_S200_S200x1_0 (V m c main_v100)⟩]
        concatenates_S200x1_S200x1_S200x1_S200x3_d1 := by
  after_reads_simp
  refine three_pieces _ ?_ ?_ ?_
  · change StableHlo.upto hostOps0 (fun b => m (c, b)) 123 (Proc.devRef .tc main_v120) = _
    after_reads_simp
  · change StableHlo.upto hostOps0 (fun b => m (c, b)) 123 (Proc.devRef .tc main_v121) = _
    after_reads_simp
  · change StableHlo.upto hostOps0 (fun b => m (c, b)) 123 (Proc.devRef .tc main_v122) = _
    after_reads_simp

/-- The rows together. -/
theorem entry_cofactors : V m c main_v127
    = concatenate S200x3x3 1 [⟨S200x1x3, broadcastInDim S200x1x3 ![0, 2] bcast_S200x3_S200x1x3_0_2 (V m c main_v115)⟩,
        ⟨S200x1x3, broadcastInDim S200x1x3 ![0, 2] bcast_S200x3_S200x1x3_0_2 (V m c main_v119)⟩,
        ⟨S200x1x3, broadcastInDim S200x1x3 ![0, 2] bcast_S200x3_S200x1x3_0_2 (V m c main_v123)⟩]
        concatenates_S200x1x3_S200x1x3_S200x1x3_S200x3x3_d1 := by
  after_reads_simp
  refine three_pieces _ ?_ ?_ ?_
  · change StableHlo.upto hostOps0 (fun b => m (c, b)) 127 (Proc.devRef .tc main_v124) = _
    after_reads_simp
  · change StableHlo.upto hostOps0 (fun b => m (c, b)) 127 (Proc.devRef .tc main_v125) = _
    after_reads_simp
  · change StableHlo.upto hostOps0 (fun b => m (c, b)) 127 (Proc.devRef .tc main_v126) = _
    after_reads_simp

/-- The determinants. -/
theorem entry_determinant (b : Fin 200) : V m c main_v111 (ix1 b) = det3 (cellOf m c b) := by
  have e : V m c main_v111 = addf (addf (mulf (entryOf (m ((c : Thread nD τ).loc main_arg0)) ![0, 0, 0]
        slices_S200x3x3_S200x1x1_0_0_0 shapeCasts_S200x1x1_S200) (V m c main_v12))
      (mulf (entryOf (m ((c : Thread nD τ).loc main_arg0)) ![0, 0, 1]
        slices_S200x3x3_S200x1x1_0_0_1 shapeCasts_S200x1x1_S200) (V m c main_v23)))
      (mulf (entryOf (m ((c : Thread nD τ).loc main_arg0)) ![0, 0, 2]
        slices_S200x3x3_S200x1x1_0_0_2 shapeCasts_S200x1x1_S200) (V m c main_v34)) := by
    after_reads_simp
    refine congrArg₂ addf (congrArg₂ addf (congrArg (mulf _) ?_) (congrArg (mulf _) ?_)) (congrArg (mulf _) ?_) <;>
      after_reads_simp
  rw [e, addf_apply, addf_apply, mulf_apply, mulf_apply, mulf_apply, (entry_minors m c b).1, (entry_minors m c b).2.1,
    (entry_minors m c b).2.2.1, entryOf_apply _ ![0, 0, 0] _ _ 0 0 rfl rfl rfl, entryOf_apply _ ![0, 0, 1] _ _ 0 1 rfl rfl rfl,
    entryOf_apply _ ![0, 0, 2] _ _ 0 2 rfl rfl rfl]
  rfl

/-- The determinants spread over the entries. -/
theorem entry_spread : V m c main_v129 = broadcastInDim S200x3x3 ![0, 1, 2] bcast_S200x1x1_S200x3x3_0_1_2
    (broadcastInDim S200x1x1 ![0] bcast_S200_S200x1x1_0 (V m c main_v111)) := by
  after_reads_simp

/-- The last array before the region is a quotient. -/
theorem entry_quotient : (V m c main_v130 : FVec Ideal S200x3x3 .f32)
    = Host.divf (F := Ideal) (φ := .f32) (V m c main_v127) (V m c main_v129) := by
  after_reads_simp

set_option maxHeartbeats 2000000 in
/-- The cofactors in the order of the inverse. -/
theorem entry_numerator (b : Fin 200) (p q : Fin 3) : V m c main_v127 (ix3 b p q) = minor (cellOf m c b) q p := by
  have M := entry_minors m c b
  rw [entry_cofactors, three_rows]
  match p with
  | ⟨0, _⟩ =>
    show V m c main_v115 (ix2 b q) = _
    rw [entry_row0, three_columns]
    match q with
    | ⟨0, _⟩ => exact M.1
    | ⟨1, _⟩ => exact M.2.2.2.1
    | ⟨2, _⟩ => exact M.2.2.2.2.2.2.1
  | ⟨1, _⟩ =>
    show V m c main_v119 (ix2 b q) = _
    rw [entry_row1, three_columns]
    match q with
    | ⟨0, _⟩ => exact M.2.1
    | ⟨1, _⟩ => exact M.2.2.2.2.1
    | ⟨2, _⟩ => exact M.2.2.2.2.2.2.2.1
  | ⟨2, _⟩ =>
    show V m c main_v123 (ix2 b q) = _
    rw [entry_row2, three_columns]
    match q with
    | ⟨0, _⟩ => exact M.2.2.1
    | ⟨1, _⟩ => exact M.2.2.2.2.2.1
    | ⟨2, _⟩ => exact M.2.2.2.2.2.2.2.2

/-- The inverse of every cell as the region finds it. -/
theorem entry_inverse (b : Fin 200) (p q : Fin 3) : V m c main_v130 (ix3 b p q) = inverse (cellOf m c b) p q := by
  rw [entry_quotient]
  show Ideal.div (V m c main_v127 (ix3 b p q)) (V m c main_v129 (ix3 b p q)) = _
  rw [entry_spread, entry_numerator, spread_matrix, entry_determinant]
  rfl

end Crystal

end
-- ==== Proof.Crystal.Final.lean ====
module

public import proofs.«01_k».proof.Proof.Crystal.Prefix
public import Idealize.ShloMosaic.Lib.Pipeline.ValueKit.Geometry

/-! The kernel's three arrays after its run, and the run. -/

@[expose] public section

noncomputable section

namespace Crystal

open Idealize.ShloMosaic Idealize.ShloMosaic.ValueIdx Cert.KernelIdeal Cert.KernelIdeal.Gen
open Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The crystal of a grid point. -/
def num (t : Fin cfg0.N) : Fin 200 := ⟨t.val, t.isLt.trans_eq N_0⟩

/-- The crystals of the arrays as launched. -/
def launched (b : Fin 200) : Data :=
  given (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) b

/-! ## Where the blocks lie -/

/-- The place of the window's block at every grid point. -/
theorem at0 : ∀ t : Fin cfg0.N, win0_0.index t = ![t.val, 0, 0] := (by decide +kernel : ∀ t : Fin grid0.N, _)
@[inherit_doc at0] theorem at1 : ∀ t : Fin cfg0.N, win0_1.index t = ![t.val, 0, 0] := (by decide +kernel : ∀ t : Fin grid0.N, _)
@[inherit_doc at0] theorem at2 : ∀ t : Fin cfg0.N, win0_2.index t = ![t.val, 0, 0] := (by decide +kernel : ∀ t : Fin grid0.N, _)
@[inherit_doc at0] theorem at3 : ∀ t : Fin cfg0.N, win0_3.index t = ![t.val, 0, 0] := (by decide +kernel : ∀ t : Fin grid0.N, _)
@[inherit_doc at0] theorem at4 : ∀ t : Fin cfg0.N, win0_4.index t = ![0, 0] := (by decide +kernel : ∀ t : Fin grid0.N, _)
@[inherit_doc at0] theorem at5 : ∀ t : Fin cfg0.N, win0_5.index t = ![0, 0] := (by decide +kernel : ∀ t : Fin grid0.N, _)
@[inherit_doc at0] theorem at6 : ∀ t : Fin cfg0.N, win0_6.index t = ![0, 0, 0] := (by decide +kernel : ∀ t : Fin grid0.N, _)
@[inherit_doc at0] theorem at7 : ∀ t : Fin cfg0.N, win0_7.index t = ![0, 0] := (by decide +kernel : ∀ t : Fin grid0.N, _)
@[inherit_doc at0] theorem at8 : ∀ t : Fin cfg0.N, win0_8.index t = ![0, 0, 0] := (by decide +kernel : ∀ t : Fin grid0.N, _)
@[inherit_doc at0] theorem at9 : ∀ t : Fin cfg0.N, win0_9.index t = ![0, 0] := (by decide +kernel : ∀ t : Fin grid0.N, _)
@[inherit_doc at0] theorem at10 : ∀ t : Fin cfg0.N, win0_10.index t = ![t.val, 0, 0] := (by decide +kernel : ∀ t : Fin grid0.N, _)
@[inherit_doc at0] theorem at11 : ∀ t : Fin cfg0.N, win0_11.index t = ![0, t.val, 0, 0] := (by decide +kernel : ∀ t : Fin grid0.N, _)
@[inherit_doc at0] theorem at12 : ∀ t : Fin cfg0.N, win0_12.index t = ![t.val, 0, 0] := (by decide +kernel : ∀ t : Fin grid0.N, _)

/-! ## The blocks read -/

variable (t : Fin cfg0.N)

/-- The cell. -/
theorem block0 (p q : Fin 3) :
    iblk m c 0 t (ix3 (0 : Fin 1) p q) = m ((c : Thread nD τ).loc main_arg0) (ix3 (num t) p q) := by
  have e := at0 t
  have h : (win0_0.blk t).view.emb (ix3 (0 : Fin 1) p q) = ix3 (num t) p q := by blk_ext [e, num]
  blk_simp [iblk]
  rw [h, V_main_arg0]

/-- The inverse of the cell. -/
theorem block1 (p q : Fin 3) :
    iblk m c 1 t (ix3 (0 : Fin 1) p q) = inverse (cellOf m c (num t)) p q := by
  have e := at1 t
  have h : (win0_1.blk t).view.emb (ix3 (0 : Fin 1) p q) = ix3 (num t) p q := by blk_ext [e, num]
  blk_simp [iblk]
  rw [h]
  exact entry_inverse m c (num t) p q

/-- The places of the atoms. -/
theorem block2 (i : Fin 50) (k : Fin 3) :
    iblk m c 2 t (ix3 (0 : Fin 1) i k) = m ((c : Thread nD τ).loc main_arg1) (ix2 (atom (num t) i) k) := by
  have e := at2 t
  have h : (win0_2.blk t).view.emb (ix3 (0 : Fin 1) i k) = ix3 (num t) i k := by blk_ext [e, num]
  blk_simp [iblk]
  rw [h, entry_places]
  refine shapeCast_apply _ _ _ _ ?_
  show (S10000x3.rowMajor (ix2 (atom (num t) i) k)).val = (S200x50x3.rowMajor (ix3 (num t) i k)).val
  rw [Shape.rowMajor_val_three, Shape.rowMajor_val_two]
  show (50 * t.val + i.val) * 3 + k.val = (t.val * 50 + i.val) * 3 + k.val
  ring

/-- The features of the atoms. -/
theorem block3 (i : Fin 50) (f : Fin 128) :
    iblk m c 3 t (ix3 (0 : Fin 1) i f) = m ((c : Thread nD τ).loc main_arg2) (ix2 (atom (num t) i) f) := by
  have e := at3 t
  have h : (win0_3.blk t).view.emb (ix3 (0 : Fin 1) i f) = ix3 (num t) i f := by blk_ext [e, num]
  blk_simp [iblk]
  rw [h, entry_features]
  refine shapeCast_apply _ _ _ _ ?_
  show (S10000x128.rowMajor (ix2 (atom (num t) i) f)).val = (S200x50x128.rowMajor (ix3 (num t) i f)).val
  rw [Shape.rowMajor_val_three, Shape.rowMajor_val_two]
  show (50 * t.val + i.val) * 128 + f.val = (t.val * 50 + i.val) * 128 + f.val
  ring

/-- The weights of the features. -/
theorem block4 (g f : Fin 128) :
    iblk m c 4 t (ix2 g f) = m ((c : Thread nD τ).loc main_arg4) (ix2 g f) := by
  have e := at4 t
  have h : (win0_4.blk t).view.emb (ix2 g f) = ix2 g f := by blk_ext [e, num]
  blk_simp [iblk]
  rw [h, V_main_arg4]

/-- The weights of the embedding. -/
theorem block5 (r : Fin 64) (f : Fin 128) :
    iblk m c 5 t (ix2 r f) = m ((c : Thread nD τ).loc main_arg5) (ix2 r f) := by
  have e := at5 t
  have h : (win0_5.blk t).view.emb (ix2 r f) = ix2 r f := by blk_ext [e, num]
  blk_simp [iblk]
  rw [h, V_main_arg5]

/-- The weights of the messages. -/
theorem block6 (r : Fin 3) (g : Fin 256) (f : Fin 128) :
    iblk m c 6 t (ix3 r g f) = m ((c : Thread nD τ).loc main_arg6) (ix3 r g f) := by
  have e := at6 t
  have h : (win0_6.blk t).view.emb (ix3 r g f) = ix3 r g f := by blk_ext [e, num]
  blk_simp [iblk]
  rw [h, V_main_arg6]

/-- The offsets of the messages. -/
theorem block7 (r : Fin 3) (f : Fin 128) :
    iblk m c 7 t (ix2 r f) = m ((c : Thread nD τ).loc main_arg7) (ix2 r f) := by
  have e := at7 t
  have h : (win0_7.blk t).view.emb (ix2 r f) = ix2 r f := by blk_ext [e, num]
  blk_simp [iblk]
  rw [h, V_main_arg7]

/-- The weights of the updates. -/
theorem block8 (r : Fin 3) (g f : Fin 128) :
    iblk m c 8 t (ix3 r g f) = m ((c : Thread nD τ).loc main_arg8) (ix3 r g f) := by
  have e := at8 t
  have h : (win0_8.blk t).view.emb (ix3 r g f) = ix3 r g f := by blk_ext [e, num]
  blk_simp [iblk]
  rw [h, V_main_arg8]

/-- The weights of the forces. -/
theorem block9f (f : Fin 128) :
    iblk m c 9 t (ix2 f (0 : Fin 2)) = m ((c : Thread nD τ).loc main_arg9) (ix2 f (0 : Fin 1)) := by
  have e := at9 t
  have h : (win0_9.blk t).view.emb (ix2 f (0 : Fin 2)) = ix2 f (0 : Fin 2) := by blk_ext [e, num]
  blk_simp [iblk]
  rw [h, entry_weights]
  exact concatenate_pair_apply_left (s₁ := S128x1) (s₂ := S128x1) 1 _ _ _ (ix2 f (0 : Fin 2)) rfl (ix2 f (0 : Fin 1)) fun a => match a with
    | ⟨0, _⟩ => rfl
    | ⟨1, _⟩ => rfl

/-- The weights of the stress. -/
theorem block9s (f : Fin 128) :
    iblk m c 9 t (ix2 f (1 : Fin 2)) = m ((c : Thread nD τ).loc main_arg10) (ix2 f (0 : Fin 1)) := by
  have e := at9 t
  have h : (win0_9.blk t).view.emb (ix2 f (1 : Fin 2)) = ix2 f (1 : Fin 2) := by blk_ext [e, num]
  blk_simp [iblk]
  rw [h, entry_weights]
  exact concatenate_pair_apply_right (s₁ := S128x1) (s₂ := S128x1) 1 _ _ _ (ix2 f (1 : Fin 2)) rfl rfl (ix2 f (0 : Fin 1))
    (fun a ha => match a with
      | ⟨0, _⟩ => rfl
      | ⟨1, _⟩ => absurd rfl ha) rfl

/-- The blocks of a grid point are one crystal's. -/
theorem block_data : blockData (iblk m c 0 t) (iblk m c 1 t) (iblk m c 2 t) (iblk m c 3 t) (iblk m c 4 t) (iblk m c 5 t)
    (iblk m c 6 t) (iblk m c 7 t) (iblk m c 8 t) (iblk m c 9 t) = launched m c (num t) := by
  simp only [blockData, block0, block1, block2, block3, block4, block5, block6, block7, block8, block9f, block9s]
  rfl

/-! ## The arrays after the run -/

/-- The three-axis index with nothing to choose on its first axis. -/
theorem unit_ix3 {n k : ℕ} (y : (⟨3, ![1, n, k]⟩ : Shape).Idx) : ∃ (i : Fin n) (j : Fin k), y = ix3 (0 : Fin 1) i j :=
  ⟨y 1, y 2, (eq_ix3 y).trans (by congr 1; exact Subsingleton.elim (α := Fin 1) _ _)⟩

/-- The four-axis index with nothing to choose on its second axis. -/
theorem unit_ix4 {r n k : ℕ} (y : (⟨4, ![r, 1, n, k]⟩ : Shape).Idx) :
    ∃ (a : Fin r) (i : Fin n) (j : Fin k), y = ix4 a (0 : Fin 1) i j :=
  ⟨y 0, y 2, y 3, (eq_ix4 y).trans (by congr 1; exact Subsingleton.elim (α := Fin 1) _ _)⟩

variable (hn : ∀ b, (launched m c b).Near)
include hn

/-- The places. -/
theorem final_places : (dats m 0 c).arrAt 10 cfg0.N = fun y : S200x50x3.Idx => (launched m c (y 0)).place 2 (y 1) (y 2) := by
  refine (dats m 0 c).arrAt_eq_of_covers 10 _ (by decide +kernel) fun t hf y => ?_
  obtain ⟨i, k, rfl⟩ := unit_ix3 (n := 50) (k := 3) y
  have e := at10 t
  have h : (win0_10.blk t).view.emb (ix3 (0 : Fin 1) i k) = ix3 (num t) i k := by blk_ext [e, num]
  blk_simp
  rw [after0_10, h]
  refine (out_places _ _ _ _ _ _ _ _ _ _ ?_ i k).trans ?_
  · rw [block_data]; exact hn _
  · rw [block_data]

/-- The trajectory. -/
theorem final_trajectory : (dats m 0 c).arrAt 11 cfg0.N
    = fun y : S3x200x50x3.Idx => (launched m c (y 1)).place (y 0) (y 2) (y 3) := by
  refine (dats m 0 c).arrAt_eq_of_covers 11 _ (by decide +kernel) fun t hf y => ?_
  obtain ⟨a, i, k, rfl⟩ := unit_ix4 (r := 3) (n := 50) (k := 3) y
  have e := at11 t
  have h : (win0_11.blk t).view.emb (ix4 a (0 : Fin 1) i k) = ix4 a (num t) i k := by blk_ext [e, num]
  blk_simp
  rw [after0_11, h]
  refine (out_trajectory _ _ _ _ _ _ _ _ _ _ ?_ a i k).trans ?_
  · rw [block_data]; exact hn _
  · rw [block_data]

/-- The stress. -/
theorem final_stress : (dats m 0 c).arrAt 12 cfg0.N = fun y : S200x3x3.Idx => (launched m c (y 0)).stress (y 1) (y 2) := by
  refine (dats m 0 c).arrAt_eq_of_covers 12 _ (by decide +kernel) fun t hf y => ?_
  obtain ⟨p, q, rfl⟩ := unit_ix3 (n := 3) (k := 3) y
  have e := at12 t
  have h : (win0_12.blk t).view.emb (ix3 (0 : Fin 1) p q) = ix3 (num t) p q := by blk_ext [e, num]
  blk_simp
  rw [after0_12, h]
  refine (out_stress _ _ _ _ _ _ _ _ _ _ ?_ p q).trans ?_
  · rw [block_data]; exact hn _
  · rw [block_data]

omit hn in
/-- The run, its results as functions of the crystals as launched. -/
theorem kernel_run (hn : ∀ (c : Dev nD) b, (launched m c b).Near) :
    θ_run defs (onTc (τ := τ) (main (F := Ideal))) ⟨m, fun _ => 0, ρ⟩ (fun r => ∀ c : Dev nD,
      r.2.mem ((c.tc : Thread nD τ).loc main_v132_0) = (fun y : S200x50x3.Idx => (launched m c (y 0)).place 2 (y 1) (y 2))
      ∧ r.2.mem ((c.tc : Thread nD τ).loc main_v132_1)
        = (fun y : S3x200x50x3.Idx => (launched m c (y 1)).place (y 0) (y 2) (y 3))
      ∧ r.2.mem ((c.tc : Thread nD τ).loc main_v132_2) = (fun y : S200x3x3.Idx => (launched m c (y 0)).stress (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨((h c).1 10).trans (final_places m c (hn c)), ((h c).1 11).trans (final_trajectory m c (hn c)),
      ((h c).1 12).trans (final_stress m c (hn c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Crystal

end
-- ==== Proof.Crystal.Taking.lean ====
module

public import proofs.«01_k».proof.Proof.Crystal.Nearest
public import proofs.«01_k».proof.Proof.Gen.ReferenceIdeal.Read
public import Idealize.ShloMosaic.Lib.ValueIdx
public import Idealize.ShloMosaic.Lib.ValueLayout
public import Idealize.ShloMosaic.Lib.Pipeline.Value

/-! What the reference takes from its tables: the greatest entries of a row, and the rows that an index table names. -/

@[expose] public section

noncomputable section

namespace Crystal

open Idealize.ShloMosaic Idealize.ShloMosaic.ValueIdx Cert.ReferenceIdeal

/-! ## The greatest entries of a row -/

section
variable {K : Nat} (hK : K ≤ 50) (x : FVec Ideal ⟨3, ![200, 50, 50]⟩ .f32)
  (h : (⟨3, ![200, 50, 50]⟩ : Shape).Slices (fun _ => 0) ⟨3, ![200, 50, K]⟩) (b : Fin 200) (i : Fin 50)
  (d : Fin 50 → EReal) (hx : ∀ j, x (ix3 b i j) = -(d j)) (k : Fin K)

/-- Moving along the row. -/
theorem along_row (j j' : Fin 50) :
    (ix3 b i j' : (⟨3, ![200, 50, 50]⟩ : Shape).Idx).along 2 j = ix3 b i j := by
  funext a; match a with | ⟨0, _⟩ => rfl | ⟨1, _⟩ => rfl | ⟨2, _⟩ => rfl

/-- The row in which the sort leaves the greatest entries first, and the table carried along. -/
theorem sorted_row (y : IVec ⟨3, ![200, 50, 50]⟩ 32) (hx : ∀ j, x (ix3 b i j) = -(d j)) (j : Fin 50) :
    (Host.sort2 ⟨3, ![200, 50, 50]⟩ 2 (fun l r : EReal × BitVec 32 => Ideal.cmp .ogt l.1 r.1) x y).1 (ix3 b i j)
        = -(d (order d j))
      ∧ (Host.sort2 ⟨3, ![200, 50, 50]⟩ 2 (fun l r : EReal × BitVec 32 => Ideal.cmp .ogt l.1 r.1) x y).2 (ix3 b i j)
        = y (ix3 b i (order d j)) := by
  have e : (sortedFrom fun k k' : Fin 50 =>
      Ideal.cmp .ogt (x ((ix3 b i j : (⟨3, ![200, 50, 50]⟩ : Shape).Idx).along 2 k))
        (x ((ix3 b i j : (⟨3, ![200, 50, 50]⟩ : Shape).Idx).along 2 k')) == 1#1) = order d := by
    unfold order
    refine congrArg sortedFrom (funext fun k => funext fun k' => ?_)
    rw [along_row b i k j, along_row b i k' j, hx k, hx k']
  have e1 := congrFun e j
  unfold Host.sort2
  rw [dif_pos (by decide)]
  constructor
  · refine (congrArg (fun n : Fin 50 => x ((ix3 b i j : (⟨3, ![200, 50, 50]⟩ : Shape).Idx).along 2 n)) e1).trans ?_
    show x ((ix3 b i j : (⟨3, ![200, 50, 50]⟩ : Shape).Idx).along 2 (order d j)) = _
    rw [along_row, hx]
  · refine (congrArg (fun n : Fin 50 => y ((ix3 b i j : (⟨3, ![200, 50, 50]⟩ : Shape).Idx).along 2 n)) e1).trans ?_
    show y ((ix3 b i j : (⟨3, ![200, 50, 50]⟩ : Shape).Idx).along 2 (order d j)) = _
    rw [along_row]

/-- The entry in a slice from the start of the row. -/
theorem slice_row {α : Type} (y : (⟨3, ![200, 50, 50]⟩ : Shape).Idx → α) :
    extractStridedSlice ⟨3, ![200, 50, K]⟩ (fun _ => 0) y h (ix3 b i k) = y (ix3 b i (Fin.castLE hK k)) := by
  unfold extractStridedSlice
  refine congrArg y (funext fun a => ?_)
  match a with
  | ⟨0, _⟩ => exact Fin.ext (Nat.zero_add _)
  | ⟨1, _⟩ => exact Fin.ext (Nat.zero_add _)
  | ⟨2, _⟩ => exact Fin.ext (Nat.zero_add _)

include hx

/-- The place of the `k`-th greatest. -/
theorem greatest_place :
    (Host.topK ⟨3, ![200, 50, K]⟩ 2 (FloatOps.cmpfTotal (F := Ideal) (φ := .f32) .gt) x h).2 (ix3 b i k)
      = BitVec.ofNat 32 (order d (Fin.castLE hK k)).val := by
  exact (slice_row hK h b i k _).trans ((sorted_row x b i d
    (fun a => if hd : 2 < 3 then iotaInDim ⟨3, ![200, 50, 50]⟩ 32 ⟨2, hd⟩ a else 0#32) hx (Fin.castLE hK k)).2.trans rfl)

/-- The `k`-th greatest. -/
theorem greatest_value :
    (Host.topK ⟨3, ![200, 50, K]⟩ 2 (FloatOps.cmpfTotal (F := Ideal) (φ := .f32) .gt) x h).1 (ix3 b i k)
      = -(d (order d (Fin.castLE hK k))) := by
  exact (slice_row hK h b i k _).trans (sorted_row x b i d
    (fun a => if hd : 2 < 3 then iotaInDim ⟨3, ![200, 50, 50]⟩ 32 ⟨2, hd⟩ a else 0#32) hx (Fin.castLE hK k)).1

end

/-! ## The rows that an index table names -/

/-- An index of an atom, read as a start and kept within the atoms. -/
theorem named (idx : IVec ⟨4, ![200, 50, 32, 1]⟩ 32) (q q' : (⟨4, ![200, 50, 32, 1]⟩ : Shape).Idx) (hq : q = q')
    (n : Fin 50) (hn : idx q' = BitVec.ofNat 32 n.val) : min (idx q).toInt.toNat 49 = n.val := by
  rw [hq, hn]
  have e : (BitVec.ofNat 32 n.val).toInt.toNat = n.val := by
    clear hn; revert n; decide
  rw [e]
  omega

/-- The row of vectors named by the table. -/
theorem taken_vector (x : FVec Ideal ⟨4, ![200, 50, 50, 3]⟩ .f32) (idx : IVec ⟨4, ![200, 50, 32, 1]⟩ 32) (b : Fin 200)
    (i : Fin 50) (k : Fin 32) (c : Fin 3) (n : Fin 50) (hn : idx (ix4 b i k 0) = BitVec.ofNat 32 n.val) :
    Host.gather gather_S200x50x50x3_S200x50x32x1_S200x50x32x3_3_2_01_01_2_3_1113 x idx (ix4 b i k c)
      = x (ix4 b i n c) := by
  unfold Host.gather
  congr 1
  funext a
  refine Fin.ext ?_
  show GatherDims.start _ _ idx a + GatherDims.batchCoord _ _ a + GatherDims.offCoord _ _ a = _
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · rw [GatherDims.start_batching _ _ _ _ (by decide),
      GatherDims.offCoord_eq_zero _ _ _ (fun h => ((GatherDims.mem_sKept _ _).mp h).2 (by decide))]
    simp only [Nat.add_zero, Nat.zero_add]
    unfold GatherDims.batchCoord
    rw [dif_pos (by decide)]
    rfl
  · rw [GatherDims.start_batching _ _ _ _ (by decide),
      GatherDims.offCoord_eq_zero _ _ _ (fun h => ((GatherDims.mem_sKept _ _).mp h).2 (by decide))]
    simp only [Nat.add_zero, Nat.zero_add]
    unfold GatherDims.batchCoord
    rw [dif_pos (by decide)]
    rfl
  · rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (by decide)]
    refine named idx _ _ ?_ n hn
    funext e
    match e with
    | ⟨0, _⟩ => rfl
    | ⟨1, _⟩ => rfl
    | ⟨2, _⟩ => rfl
    | ⟨3, _⟩ => rfl
  · rw [GatherDims.batchCoord_eq_zero _ _ _ (by decide)]
    unfold GatherDims.start
    rw [dif_neg (by decide)]
    simp only [Nat.add_zero, Nat.zero_add]
    unfold GatherDims.offCoord
    rw [dif_pos (by decide)]
    rfl

/-- The row of features named by the table. -/
theorem taken_feature (x : FVec Ideal ⟨3, ![200, 50, 128]⟩ .f32) (idx : IVec ⟨4, ![200, 50, 32, 1]⟩ 32) (b : Fin 200)
    (i : Fin 50) (k : Fin 32) (f : Fin 128) (n : Fin 50) (hn : idx (ix4 b i k 0) = BitVec.ofNat 32 n.val) :
    Host.gather gather_S200x50x128_S200x50x32x1_S200x50x32x128_3_1_0_0_1_3_11128 x idx (ix4 b i k f)
      = x (ix3 b n f) := by
  unfold Host.gather
  congr 1
  funext a
  refine Fin.ext ?_
  show GatherDims.start _ _ idx a + GatherDims.batchCoord _ _ a + GatherDims.offCoord _ _ a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (by decide),
      GatherDims.offCoord_eq_zero _ _ _ (fun h => ((GatherDims.mem_sKept _ _).mp h).2 (by decide))]
    simp only [Nat.add_zero, Nat.zero_add]
    unfold GatherDims.batchCoord
    rw [dif_pos (by decide)]
    rfl
  · rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (by decide)]
    refine named idx _ _ ?_ n hn
    funext e
    match e with
    | ⟨0, _⟩ => rfl
    | ⟨1, _⟩ => rfl
    | ⟨2, _⟩ => rfl
    | ⟨3, _⟩ => rfl
  · rw [GatherDims.batchCoord_eq_zero _ _ _ (by decide)]
    unfold GatherDims.start
    rw [dif_neg (by decide)]
    simp only [Nat.add_zero, Nat.zero_add]
    unfold GatherDims.offCoord
    rw [dif_pos (by decide)]
    rfl

end Crystal
-- ==== Proof.Crystal.Passing.lean ====
module

public import proofs.«01_k».proof.Proof.Crystal.Given
public import proofs.«01_k».proof.Proof.Crystal.Taking
public import Idealize.ShloMosaic.Lib.TwoAxisContraction

/-! One round of the reference as functions of whole tables, each read at one entry. -/

@[expose] public section

noncomputable section

namespace Crystal

open Idealize.ShloMosaic Idealize.ShloMosaic.ValueIdx Cert.ReferenceIdeal Cert.ReferenceIdeal.Gen Cert.ReferenceIdeal.Read

/-- A product of two tables over one common axis, once the entries that meet are known. -/
theorem product_entry {s s' t : Shape} (D : DotDims s s' t) (n : Nat) (hr : D.contr.rank = 1)
    (hs : D.contr.size ⟨0, by omega⟩ = n) (x : FVec Ideal s .f32) (y : FVec Ideal s' .f32) (i : t.Idx)
    (l : Fin n → s.Idx) (r : Fin n → s'.Idx)
    (hl : ∀ (q : D.contr.Idx) (k : Fin n), (q ⟨0, by omega⟩).val = k.val → D.lhsIdx i q = l k)
    (hr' : ∀ (q : D.contr.Idx) (k : Fin n), (q ⟨0, by omega⟩).val = k.val → D.rhsIdx i q = r k) :
    (Host.dotGeneral (F := Ideal) D none x y : FVec Ideal t .f32) i = ∑ k : Fin n, x (l k) * y (r k) := by
  simp only [Host.dotGeneral]
  rw [Ideal.dotGeneral_apply, ← Equiv.sum_comp (contrEquiv1 D n hr hs).symm]
  refine Finset.sum_congr rfl fun k _ => ?_
  rw [hl _ k (contrEquiv1_symm_val D n hr hs k), hr' _ k (contrEquiv1_symm_val D n hr hs k)]

/-! ## The weighting of a value by its logistic -/

/-- A table of ones. -/
def ones : FVec Ideal S200x50x32x128 .f32 :=
  broadcastInDim S200x50x32x128 ![] bcast_S_S200x50x32x128 (constant S_ .f32 0x3F800000#32)

/-- Each entry times its logistic. -/
def tableSil (v : FVec Ideal S200x50x32x128 .f32) : FVec Ideal S200x50x32x128 .f32 :=
  mulf v (Host.divf ones (addf ones (Host.exp (Host.negf v))))

/-- That is the weighting of the model. -/
theorem tableSil_apply (v : FVec Ideal S200x50x32x128 .f32) (i : S200x50x32x128.Idx) : tableSil v i = sil (v i) := by
  show v i * Ideal.div (lit 0x3F800000#32) (lit 0x3F800000#32 + Ideal.exp (-(v i))) = v i * Ideal.logistic (v i)
  rw [lit_one]
  rfl

/-! ## The messages -/

/-- The states of the neighbours beside the embeddings. -/
def tablePair (h : FVec Ideal S200x50x128 .f32) (n : IVec S200x50x32x1 32) (e : FVec Ideal S200x50x32x128 .f32) :
    FVec Ideal S200x50x32x256 .f32 :=
  concatenate S200x50x32x256 3
    [⟨S200x50x32x128, Host.gather gather_S200x50x128_S200x50x32x1_S200x50x32x128_3_1_0_0_1_3_11128 h n⟩,
      ⟨S200x50x32x128, e⟩] concatenates_S200x50x32x128_S200x50x32x128_S200x50x32x256_d3

/-- The messages before they are weighted. -/
def tableSum (h : FVec Ideal S200x50x128 .f32) (n : IVec S200x50x32x1 32) (e : FVec Ideal S200x50x32x128 .f32)
    (w : FVec Ideal S256x128 .f32) (a : FVec Ideal S128 .f32) : FVec Ideal S200x50x32x128 .f32 :=
  addf (Host.dotGeneral dot_S200x50x32x256_S256x128_S200x50x32x128_3_0_012_1_n_n none (tablePair h n e) w)
    (broadcastInDim S200x50x32x128 ![0, 1, 2, 3] bcast_S1x1x1x128_S200x50x32x128_0_1_2_3
      (broadcastInDim S1x1x1x128 ![3] bcast_S128_S1x1x1x128_3 a))

section
variable (h : FVec Ideal S200x50x128 .f32) (n : IVec S200x50x32x1 32) (e : FVec Ideal S200x50x32x128 .f32)
  (w : FVec Ideal S256x128 .f32) (a : FVec Ideal S128 .f32) (b : Fin 200) (i : Fin 50) (k : Fin 32)
  (N : Fin 50) (hn : n (ix4 b i k 0) = BitVec.ofNat 32 N.val) (f : Fin 128)

/-- The second half of the pair is the embedding. -/
theorem tablePair_hi (g : Fin 128) : tablePair h n e (ix4 b i k (hi g)) = e (ix4 b i k g) := by
  refine concatenate_pair_apply_right (s₁ := S200x50x32x128) (s₂ := S200x50x32x128) 3 _ _ _ (ix4 b i k (hi g)) rfl rfl
    (ix4 b i k g) (fun a ha => match a with
      | ⟨0, _⟩ => rfl
      | ⟨1, _⟩ => rfl
      | ⟨2, _⟩ => rfl
      | ⟨3, _⟩ => absurd rfl ha) ?_
  show g.val + 128 = 128 + g.val
  omega

include hn in
/-- The first half of the pair is the neighbour's state. -/
theorem tablePair_lo (g : Fin 128) : tablePair h n e (ix4 b i k (lo g)) = h (ix3 b N g) := by
  refine (concatenate_pair_apply_left (s₁ := S200x50x32x128) (s₂ := S200x50x32x128) 3 _ _ _ (ix4 b i k (lo g)) rfl
    (ix4 b i k g) (fun a => match a with
      | ⟨0, _⟩ => rfl
      | ⟨1, _⟩ => rfl
      | ⟨2, _⟩ => rfl
      | ⟨3, _⟩ => rfl)).trans ?_
  exact taken_feature h n b i k g N hn

include hn in
/-- A message before it is weighted. -/
theorem tableSum_apply :
    tableSum h n e w a (ix4 b i k f)
      = (∑ g : Fin 128, h (ix3 b N g) * w (ix2 (lo g) f) + ∑ g : Fin 128, e (ix4 b i k g) * w (ix2 (hi g) f))
        + a (ix1 f) := by
  unfold tableSum
  rw [addf_apply]
  refine congrArg₂ (· + ·) ?_ ?_
  · refine (product_entry dot_S200x50x32x256_S256x128_S200x50x32x128_3_0_012_1_n_n 256 rfl rfl (tablePair h n e) w _
      (fun r => ix4 b i k r) (fun r => ix2 r f) (fun q r hq => funext fun a => Fin.ext ?_)
      (fun q r hq => funext fun a => Fin.ext ?_)).trans ?_
    · match a with
      | ⟨0, _⟩ => exact lhs_main_v145_0 _ _
      | ⟨1, _⟩ => exact lhs_main_v145_1 _ _
      | ⟨2, _⟩ => exact lhs_main_v145_2 _ _
      | ⟨3, _⟩ => exact (lhs_main_v145_3 _ _).trans hq
    · match a with
      | ⟨0, _⟩ => exact (rhs_main_v145_0 _ _).trans hq
      | ⟨1, _⟩ => exact rhs_main_v145_1 _ _
    · refine (Fin.sum_univ_add (a := 128) (b := 128) _).trans ?_
      refine congrArg₂ (· + ·) (Finset.sum_congr rfl fun g _ => ?_) (Finset.sum_congr rfl fun g _ => ?_)
      · exact congrArg (· * _) (tablePair_lo h n e b i k N hn g)
      · exact congrArg (· * _) (tablePair_hi h n e b i k g)
  · refine (broadcastInDim_apply ![0, 1, 2, 3] _ _ (ix4 b i k f) (ix4 (n0 := 1) (n1 := 1) (n2 := 1) 0 0 0 f) ?_).trans
      (broadcastInDim_apply ![3] _ _ (ix4 (n0 := 1) (n1 := 1) (n2 := 1) 0 0 0 f) (ix1 f) ?_)
    · intro a
      match a with
      | ⟨0, _⟩ => rfl
      | ⟨1, _⟩ => rfl
      | ⟨2, _⟩ => rfl
      | ⟨3, _⟩ => rfl
    · intro a
      match a with
      | ⟨0, _⟩ => rfl

include hn in
/-- A message of the reference is a message of the model. -/
theorem tableMessage_apply :
    tableSil (tableSum h n e w a) (ix4 b i k f)
      = msg (fun r f => w (ix2 r f)) (fun f => a (ix1 f)) (fun g => h (ix3 b N g)) (fun g => e (ix4 b i k g)) f := by
  rw [tableSil_apply, tableSum_apply h n e w a b i k N hn f]
  rfl

end

/-! ## The states after a round -/

/-- The states after a round, from those before it and the messages. -/
def tableUpdate (h : FVec Ideal S200x50x128 .f32) (m : FVec Ideal S200x50x32x128 .f32) (w : FVec Ideal S128x128 .f32) :
    FVec Ideal S200x50x128 .f32 :=
  addf h (Host.tanh (Host.dotGeneral dot_S200x50x128_S128x128_S200x50x128_2_0_01_1_n_n none
    (Host.reduceAdd m (constant S_ .f32 0x00000000#32) reducesTo_S200x50x32x128_S200x50x128_d2 h_S_) w))

/-- A state after a round. -/
theorem tableUpdate_apply (h : FVec Ideal S200x50x128 .f32) (m : FVec Ideal S200x50x32x128 .f32)
    (w : FVec Ideal S128x128 .f32) (b : Fin 200) (i : Fin 50) (f : Fin 128) :
    tableUpdate h m w (ix3 b i f)
      = h (ix3 b i f) + Ideal.tanh (∑ g : Fin 128, (∑ k : Fin 32, m (ix4 b i k g)) * w (ix2 g f)) := by
  unfold tableUpdate
  rw [addf_apply]
  refine congrArg (h (ix3 b i f) + ·) (congrArg Ideal.tanh ?_)
  refine (product_entry dot_S200x50x128_S128x128_S200x50x128_2_0_01_1_n_n 128 rfl rfl _ w _
    (fun g => ix3 b i g) (fun g => ix2 g f) (fun q r hq => funext fun a => Fin.ext ?_)
    (fun q r hq => funext fun a => Fin.ext ?_)).trans ?_
  · match a with
    | ⟨0, _⟩ => exact lhs_main_v155_0 _ _
    | ⟨1, _⟩ => exact lhs_main_v155_1 _ _
    | ⟨2, _⟩ => exact (lhs_main_v155_2 _ _).trans hq
  · match a with
    | ⟨0, _⟩ => exact (rhs_main_v155_0 _ _).trans hq
    | ⟨1, _⟩ => exact rhs_main_v155_1 _ _
  · refine Finset.sum_congr rfl fun g _ => congrArg (· * _) ?_
    simp only [Host.reduceAdd, Ideal.hostReduceAdd_def]
    rw [Ideal.hostReduceAdd_single reducesTo_S200x50x32x128_S200x50x128_d2 (by decide)]
    refine (congrArg (· + _) Ideal.ofBits_zero_f32).trans ((zero_add _).trans ?_)
    refine Finset.sum_congr rfl fun k _ => congrArg m (funext fun a => Fin.ext ?_)
    match a with
    | ⟨0, _⟩ => rfl
    | ⟨1, _⟩ => rfl
    | ⟨2, _⟩ => rfl
    | ⟨3, _⟩ => rfl

/-! ## The pulls, the moves and the tension -/

/-- The pulls along the edges: the message against a vector of weights, along the direction. -/
def tablePull (m : FVec Ideal S200x50x32x128 .f32) (w : FVec Ideal S128x1 .f32) (u : FVec Ideal S200x50x32x3 .f32) :
    FVec Ideal S200x50x32x3 .f32 :=
  mulf (broadcastInDim S200x50x32x3 ![0, 1, 2, 3] bcast_S200x50x32x1_S200x50x32x3_0_1_2_3
    (broadcastInDim S200x50x32x1 ![0, 1, 2] bcast_S200x50x32_S200x50x32x1_0_1_2
      (shapeCast _ (Host.dotGeneral dot_S200x50x32x128_S128x1_S200x50x32x1_3_0_012_1_n_n none m w)
        shapeCasts_S200x50x32x1_S200x50x32))) u

/-- A pull along an edge. -/
theorem tablePull_apply (m : FVec Ideal S200x50x32x128 .f32) (w : FVec Ideal S128x1 .f32)
    (u : FVec Ideal S200x50x32x3 .f32) (b : Fin 200) (i : Fin 50) (k : Fin 32) (c : Fin 3) :
    tablePull m w u (ix4 b i k c) = (∑ f : Fin 128, m (ix4 b i k f) * w (ix2 f 0)) * u (ix4 b i k c) := by
  unfold tablePull
  rw [mulf_apply]
  refine congrArg (· * u (ix4 b i k c)) ?_
  refine (broadcastInDim_apply (s := S200x50x32x1) ![0, 1, 2, 3] _ _ (ix4 b i k c) (ix4 b i k 0) (fun a => ?_)).trans ?_
  · match a with
    | ⟨0, _⟩ => rfl
    | ⟨1, _⟩ => rfl
    | ⟨2, _⟩ => rfl
    | ⟨3, _⟩ => rfl
  refine (broadcastInDim_apply (s := S200x50x32) ![0, 1, 2] _ _ (ix4 b i k 0) (ix3 b i k) (fun a => ?_)).trans ?_
  · match a with
    | ⟨0, _⟩ => rfl
    | ⟨1, _⟩ => rfl
    | ⟨2, _⟩ => rfl
  refine (shapeCast_apply (s := S200x50x32x1) _ _ (ix3 b i k) (ix4 b i k 0) ?_).trans
    (product_entry dot_S200x50x32x128_S128x1_S200x50x32x1_3_0_012_1_n_n 128 rfl rfl m w _
      (fun f => ix4 b i k f) (fun f => ix2 f 0) (fun q r hq => funext fun a => Fin.ext ?_)
      (fun q r hq => funext fun a => Fin.ext ?_))
  · rw [Shape.rowMajor_val_four, Shape.rowMajor_val_three]
    show ((b.val * 50 + i.val) * 32 + k.val) * 1 + 0 = (b.val * 50 + i.val) * 32 + k.val
    omega
  · match a with
    | ⟨0, _⟩ => exact lhs_main_v158_0 _ _
    | ⟨1, _⟩ => exact lhs_main_v158_1 _ _
    | ⟨2, _⟩ => exact lhs_main_v158_2 _ _
    | ⟨3, _⟩ => exact (lhs_main_v158_3 _ _).trans hq
  · match a with
    | ⟨0, _⟩ => exact (rhs_main_v158_0 _ _).trans hq
    | ⟨1, _⟩ => exact rhs_main_v158_1 _ _

/-- The places after a round, from those before it, the pulls and the inverse cells. -/
def tableStep (x : FVec Ideal S200x50x3 .f32) (p : FVec Ideal S200x50x32x3 .f32) (v : FVec Ideal S200x3x3 .f32) :
    FVec Ideal S200x50x3 .f32 :=
  addf x (Host.dotGeneral dot_S200x50x3_S200x3x3_S200x50x3_2_1_1_2_0_0 none
    (Host.reduceAdd p (constant S_ .f32 0x00000000#32) reducesTo_S200x50x32x3_S200x50x3_d2 h_S_) v)

/-- A place after a round. -/
theorem tableStep_apply (x : FVec Ideal S200x50x3 .f32) (p : FVec Ideal S200x50x32x3 .f32)
    (v : FVec Ideal S200x3x3 .f32) (b : Fin 200) (i : Fin 50) (c : Fin 3) :
    tableStep x p v (ix3 b i c)
      = x (ix3 b i c) + ∑ d : Fin 3, (∑ k : Fin 32, p (ix4 b i k d)) * v (ix3 b d c) := by
  unfold tableStep
  rw [addf_apply]
  refine congrArg (x (ix3 b i c) + ·) ?_
  refine (product_entry dot_S200x50x3_S200x3x3_S200x50x3_2_1_1_2_0_0 3 rfl rfl _ v _
    (fun d => ix3 b i d) (fun d => ix3 b d c) (fun q r hq => funext fun a => Fin.ext ?_)
    (fun q r hq => funext fun a => Fin.ext ?_)).trans ?_
  · match a with
    | ⟨0, _⟩ => exact lhs_main_v164_0 _ _
    | ⟨1, _⟩ => exact lhs_main_v164_1 _ _
    | ⟨2, _⟩ => exact (lhs_main_v164_2 _ _).trans hq
  · match a with
    | ⟨0, _⟩ => exact rhs_main_v164_0 _ _
    | ⟨1, _⟩ => exact (rhs_main_v164_1 _ _).trans hq
    | ⟨2, _⟩ => exact rhs_main_v164_2 _ _
  · refine Finset.sum_congr rfl fun d _ => congrArg (· * _) ?_
    simp only [Host.reduceAdd, Ideal.hostReduceAdd_def]
    rw [Ideal.hostReduceAdd_single reducesTo_S200x50x32x3_S200x50x3_d2 (by decide)]
    refine (congrArg (· + _) Ideal.ofBits_zero_f32).trans ((zero_add _).trans ?_)
    refine Finset.sum_congr rfl fun k _ => congrArg p (funext fun a => Fin.ext ?_)
    match a with
    | ⟨0, _⟩ => rfl
    | ⟨1, _⟩ => rfl
    | ⟨2, _⟩ => rfl
    | ⟨3, _⟩ => rfl

/-- The tension: the pulls against the displacements, over all edges. -/
def tableTension (p u : FVec Ideal S200x50x32x3 .f32) : FVec Ideal S200x3x3 .f32 :=
  Host.dotGeneral dot_S200x50x32x3_S200x50x32x3_S200x3x3_12_12_3_3_0_0 none p u

/-- An entry of the tension. -/
theorem tableTension_apply (p u : FVec Ideal S200x50x32x3 .f32) (b : Fin 200) (c d : Fin 3) :
    tableTension p u (ix3 b c d) = ∑ i : Fin 50, ∑ k : Fin 32, p (ix4 b i k c) * u (ix4 b i k d) := by
  unfold tableTension
  simp only [Host.dotGeneral]
  rw [Ideal.dotGeneral_apply, sum_contr2 dot_S200x50x32x3_S200x50x32x3_S200x3x3_12_12_3_3_0_0 50 32 rfl rfl rfl]
  refine Finset.sum_congr rfl fun i _ => Finset.sum_congr rfl fun k _ => ?_
  have h0 := contrEquiv2_symm_val0 dot_S200x50x32x3_S200x50x32x3_S200x3x3_12_12_3_3_0_0 50 32 rfl rfl rfl (i, k)
  have h1 := contrEquiv2_symm_val1 dot_S200x50x32x3_S200x50x32x3_S200x3x3_12_12_3_3_0_0 50 32 rfl rfl rfl (i, k)
  refine congrArg₂ (· * ·) (congrArg p (funext fun a => Fin.ext ?_)) (congrArg u (funext fun a => Fin.ext ?_))
  · match a with
    | ⟨0, _⟩ => rfl
    | ⟨1, _⟩ => exact h0
    | ⟨2, _⟩ => exact h1
    | ⟨3, _⟩ => rfl
  · match a with
    | ⟨0, _⟩ => rfl
    | ⟨1, _⟩ => exact h0
    | ⟨2, _⟩ => exact h1
    | ⟨3, _⟩ => rfl

end Crystal
-- ==== Proof.Crystal.Sight.lean ====
module

public import proofs.«01_k».proof.Proof.Crystal.Passing
public import Idealize.ShloMosaic.Lib.IdealHost

/-! What the reference makes of the places before the rounds: displacements, distances, neighbours, directions and
    embeddings. -/

@[expose] public section

noncomputable section

namespace Crystal

open Idealize.ShloMosaic Idealize.ShloMosaic.ValueIdx Cert.ReferenceIdeal Cert.ReferenceIdeal.Gen Cert.ReferenceIdeal.Read

variable (a0 : FVec Ideal S200x3x3 .f32) (a1 : FVec Ideal S10000x3 .f32) (a2 : FVec Ideal S10000x128 .f32)
  (a4 : FVec Ideal S128x128 .f32) (a5 : FVec Ideal S64x128 .f32) (a6 : FVec Ideal S3x256x128 .f32)
  (a7 : FVec Ideal S3x128 .f32) (a8 : FVec Ideal S3x128x128 .f32) (a9 a10 : FVec Ideal S128x1 .f32)

/-- The crystal of the arrays. -/
abbrev seen (b : Fin 200) : Data := given a0 a1 a2 a4 a5 a6 a7 a8 a9 a10 b

/-- A place. -/
theorem see_place (b : Fin 200) (i : Fin 50) (c : Fin 3) :
    val_main_v0 (F := Ideal) a1 (ix3 b i c) = a1 (ix2 (atom b i) c) := by
  rw [val_main_v0_apply]
  refine congrArg a1 (funext fun a => Fin.ext ?_)
  match a with
  | ⟨0, _⟩ => show ((b.val * 50 + i.val) * 3 + c.val) / 3 = 50 * b.val + i.val; omega
  | ⟨1, _⟩ => show ((b.val * 50 + i.val) * 3 + c.val) % 3 = c.val; omega

/-- A displacement. -/
theorem see_vec (b : Fin 200) (i j : Fin 50) (c : Fin 3) :
    val_main_v9 (F := Ideal) a0 a1 (ix4 b i j c) = (seen a0 a1 a2 a4 a5 a6 a7 a8 a9 a10 b).vec i j c := by
  rw [val_main_v9_apply]
  unfold Data.vec between
  refine Finset.sum_congr rfl fun d _ => ?_
  refine congrArg₂ (· * ·) ?_ (congrArg a0 (eq_ix3 (ridx_main_v9 (ix4 b i j c) d)))
  have e4 : val_main_v4 (F := Ideal) a1 (lidx_main_v9 (ix4 b i j c) d) = a1 (ix2 (atom b i) d) := by
    rw [val_main_v4_apply, val_main_v2_apply]
    exact (congrArg _ (eq_ix3 _)).trans (see_place a1 b i d)
  have e5 : val_main_v5 (F := Ideal) a1 (lidx_main_v9 (ix4 b i j c) d) = a1 (ix2 (atom b j) d) := by
    rw [val_main_v5_apply, val_main_v3_apply]
    exact (congrArg _ (eq_ix3 _)).trans (see_place a1 b j d)
  rw [val_main_v8_apply, val_main_v7_apply, val_main_v6_apply, e4, e5]
  rfl

/-- A length. -/
theorem see_len (b : Fin 200) (i j : Fin 50) :
    val_main_v14 (F := Ideal) a0 a1 (ix3 b i j) = len ((seen a0 a1 a2 a4 a5 a6 a7 a8 a9 a10 b).vec i j) := by
  rw [val_main_v14_apply, val_main_v13_apply, val_main_v12_apply, val_main_v11_apply]
  have e : ∀ k : Fin 3, val_main_v10 (F := Ideal) a0 a1 (idx_main_v11 (ix3 b i j) k)
      = (seen a0 a1 a2 a4 a5 a6 a7 a8 a9 a10 b).vec i j k * (seen a0 a1 a2 a4 a5 a6 a7 a8 a9 a10 b).vec i j k := by
    intro k
    rw [val_main_v10_apply]
    have h := (congrArg (val_main_v9 (F := Ideal) a0 a1) (eq_ix4 (idx_main_v11 (ix3 b i j) k))).trans
      (see_vec a0 a1 a2 a4 a5 a6 a7 a8 a9 a10 b i j k)
    rw [h]
    rfl
  simp only [e, Fin.sum_univ_three]
  rw [val_main_cst_apply, val_main_cst_0_apply]
  refine congrArg Ideal.sqrt (congrArg (· + _) ?_)
  exact (congrArg (· + _) Ideal.ofBits_zero_f32).trans (zero_add _)

/-- The matrix that keeps an atom away from itself. -/
theorem see_self (b : Fin 200) (i j : Fin 50) :
    val_main_v24 (F := Ideal) (ix3 b i j) = if i = j then lit 0x49742400#32 else 0 := by
  have e1 : val_main_v21 (F := Ideal) (idx_main_v24 (ix3 b i j)) = if i = j then 1 else 0 := by
    rw [val_main_v21_apply, val_main_v20_apply, val_main_v19_apply, val_main_v18_apply, val_main_v15_apply,
      val_main_v16_apply, val_main_v17_apply, val_main_c_apply]
    have h : ∀ i j : Fin 50, IntOp.cmpi .eq (IntOp.addi (BitVec.ofNat 32 i.val) 0#32) (BitVec.ofNat 32 j.val)
        = if i = j then 1#1 else 0#1 := by
      decide
    refine (congrArg (fun w : BitVec 1 => ((w.toNat : ℝ) : EReal)) (h i j)).trans ?_
    split
    · simp
    · simp
  rw [val_main_v24_apply, val_main_v23_apply, val_main_v22_apply, val_main_cst_1_apply, e1]
  show (if i = j then (1 : EReal) else 0) * lit 0x49742400#32 = _
  split
  · exact one_mul _
  · exact zero_mul _

/-- A distance. -/
theorem see_dist (b : Fin 200) (i j : Fin 50) :
    val_main_v25 (F := Ideal) a0 a1 (ix3 b i j) = (seen a0 a1 a2 a4 a5 a6 a7 a8 a9 a10 b).dist i j := by
  rw [val_main_v25_apply, see_len a0 a1 a2 a4 a5 a6 a7 a8 a9 a10, see_self]
  unfold Data.dist
  show _ + _ = _
  split
  · rfl
  · exact add_zero _

/-- The neighbours' places in the crystal. -/
theorem see_index (b : Fin 200) (i : Fin 50) (k : Fin 32) :
    val_main_indices (F := Ideal) a0 a1 (ix3 b i k)
      = BitVec.ofNat 32 ((seen a0 a1 a2 a4 a5 a6 a7 a8 a9 a10 b).nb i k).val := by
  unfold val_main_indices Data.nb nearest
  exact greatest_place (K := 32) (by omega) (val_main_v26 (F := Ideal) a0 a1) sliceFits_S200x50x50_S200x50x32 b i ((seen a0 a1 a2 a4 a5 a6 a7 a8 a9 a10 b).dist i)
    (fun j => congrArg (fun v : EReal => -v) (see_dist a0 a1 a2 a4 a5 a6 a7 a8 a9 a10 b i j)) k

/-- The neighbours' distances. -/
theorem see_near (b : Fin 200) (i : Fin 50) (k : Fin 32) :
    val_main_v27 (F := Ideal) a0 a1 (ix3 b i k)
      = (seen a0 a1 a2 a4 a5 a6 a7 a8 a9 a10 b).dist i ((seen a0 a1 a2 a4 a5 a6 a7 a8 a9 a10 b).nb i k) := by
  rw [val_main_v27_apply]
  refine (congrArg (fun v : EReal => -v) (greatest_value (K := 32) (by omega) (val_main_v26 (F := Ideal) a0 a1) sliceFits_S200x50x50_S200x50x32 b i
    ((seen a0 a1 a2 a4 a5 a6 a7 a8 a9 a10 b).dist i)
    (fun j => congrArg (fun v : EReal => -v) (see_dist a0 a1 a2 a4 a5 a6 a7 a8 a9 a10 b i j)) k)).trans ?_
  exact neg_neg _

/-- The neighbours' places as the first taking uses them. -/
theorem see_index1 (b : Fin 200) (i : Fin 50) (k : Fin 32) :
    val_main_call1_v4 (F := Ideal) a0 a1 (ix4 b i k 0)
      = BitVec.ofNat 32 ((seen a0 a1 a2 a4 a5 a6 a7 a8 a9 a10 b).nb i k).val := by
  have e : val_main_v28 (F := Ideal) a0 a1 (ix4 b i k 0)
      = BitVec.ofNat 32 ((seen a0 a1 a2 a4 a5 a6 a7 a8 a9 a10 b).nb i k).val := by
    rw [val_main_v28_apply]
    exact (congrArg _ (eq_ix3 _)).trans (see_index a0 a1 a2 a4 a5 a6 a7 a8 a9 a10 b i k)
  rw [val_main_call1_v4_apply, val_main_call1_v1_apply, e, val_main_call1_v0_apply, val_main_call1_c_apply]
  have h : ∀ n : Fin 50, IntOp.cmpi .slt (BitVec.ofNat 32 n.val) 0#32 = 0#1 := by decide
  rw [h]
  rfl

/-- The neighbours' places as the rounds use them. -/
theorem see_index2 (b : Fin 200) (i : Fin 50) (k : Fin 32) :
    val_main_call10_v0 (F := Ideal) a0 a1 (ix4 b i k 0)
      = BitVec.ofNat 32 ((seen a0 a1 a2 a4 a5 a6 a7 a8 a9 a10 b).nb i k).val := by
  rw [val_main_call10_v0_apply]
  exact (congrArg _ (eq_ix3 _)).trans (see_index a0 a1 a2 a4 a5 a6 a7 a8 a9 a10 b i k)

/-- The displacements to the neighbours. -/
theorem see_vec_near (b : Fin 200) (i : Fin 50) (k : Fin 32) (c : Fin 3) :
    val_main_v29 (F := Ideal) a0 a1 (ix4 b i k c)
      = (seen a0 a1 a2 a4 a5 a6 a7 a8 a9 a10 b).vec i ((seen a0 a1 a2 a4 a5 a6 a7 a8 a9 a10 b).nb i k) c :=
  (taken_vector _ _ b i k c _ (see_index1 a0 a1 a2 a4 a5 a6 a7 a8 a9 a10 b i k)).trans
    (see_vec a0 a1 a2 a4 a5 a6 a7 a8 a9 a10 b i _ c)

/-- The directions to the neighbours. -/
theorem see_unit (b : Fin 200) (i : Fin 50) (k : Fin 32) (c : Fin 3) :
    val_main_v34 (F := Ideal) a0 a1 (ix4 b i k c)
      = (seen a0 a1 a2 a4 a5 a6 a7 a8 a9 a10 b).unit i ((seen a0 a1 a2 a4 a5 a6 a7 a8 a9 a10 b).nb i k) c := by
  rw [val_main_v34_apply, see_vec_near a0 a1 a2 a4 a5 a6 a7 a8 a9 a10, val_main_v33_apply, val_main_v32_apply,
    val_main_v31_apply, val_main_v30_apply, val_main_cst_2_apply]
  have e := (congrArg (val_main_v27 (F := Ideal) a0 a1)
    (eq_ix3 (idx_main_v30 (idx_main_v33 (ix4 b i k c))))).trans
    (see_near a0 a1 a2 a4 a5 a6 a7 a8 a9 a10 b i k)
  rw [e]
  rfl

/-- The literal five. -/
theorem lit_five : lit 0x40A00000#32 = ((5 : ℝ) : EReal) := by
  simp [lit, Ideal.ofBits, Ideal.ieee, -EReal.coe_mul]; norm_num

/-- The literal sixty-three. -/
theorem lit_sixty_three : lit 0x427C0000#32 = ((63 : ℝ) : EReal) := by
  simp [lit, Ideal.ofBits, Ideal.ieee, -EReal.coe_mul]; norm_num

/-- The centres of the radial basis. -/
theorem see_centre (r : Fin 64) : val_main_v35 (F := Ideal) (ix1 r) = centre r := by
  unfold val_main_v35
  rcases lt_or_ge r.val 63 with hr | hr
  · refine (concatenate_pair_apply_left (s₁ := S63) (s₂ := S1) 0 _ _ _ (ix1 r) rfl (ix1 (⟨r.val, hr⟩ : Fin 63))
      (fun a => match a with | ⟨0, _⟩ => rfl)).trans ?_
    rw [val_main_call2_v15_apply, val_main_call2_v14_apply, val_main_call2_v13_apply, val_main_call2_v11_apply,
      val_main_call2_v10_apply, val_main_call2_v6_apply, val_main_call2_v5_apply, val_main_call2_cst_0_apply]
    have e4 : val_main_call2_v4 (F := Ideal) (ix1 (⟨r.val, hr⟩ : Fin 63)) = ((r.val : ℝ) : EReal) := by
      show (((BitVec.ofNat 32 r.val).toInt : ℝ) : EReal) = _
      have h : ∀ r : Fin 64, (BitVec.ofNat 32 r.val).toInt = r.val := by decide
      rw [h]
      simp
    rw [e4]
    show lit 0x00000000#32 * _ + lit 0x40A00000#32 * Ideal.div ((r.val : ℝ) : EReal) (lit 0x427C0000#32) = centre r
    have h0 : lit 0x00000000#32 = 0 := Ideal.ofBits_zero_f32
    rw [h0, zero_mul, zero_add, lit_five, lit_sixty_three, Ideal.div_coe (by norm_num)]
    unfold centre
    rw [← EReal.coe_mul, ← EReal.coe_mul]
    congr 1
    ring
  · have hr' : r = 63 := Fin.ext (by show r.val = 63; omega)
    subst hr'
    refine (concatenate_pair_apply_right (s₁ := S63) (s₂ := S1) 0 _ _ _ (ix1 (n := 64) 63) rfl rfl (ix1 (n := 1) 0)
      (fun a ha => match a with | ⟨0, _⟩ => absurd rfl ha) (by decide)).trans ?_
    show lit 0x40A00000#32 = centre 63
    rw [lit_five]
    unfold centre
    rw [← EReal.coe_mul]
    norm_num

/-- The embeddings of the distances. -/
theorem see_emb (b : Fin 200) (i : Fin 50) (k : Fin 32) (f : Fin 128) :
    val_main_v46 (F := Ideal) a0 a1 a5 (ix4 b i k f)
      = (seen a0 a1 a2 a4 a5 a6 a7 a8 a9 a10 b).emb i ((seen a0 a1 a2 a4 a5 a6 a7 a8 a9 a10 b).nb i k) f := by
  refine (tableSil_apply (val_main_v45 (F := Ideal) a0 a1 a5) (ix4 b i k f)).trans ?_
  refine congrArg sil ?_
  rw [val_main_v45_apply]
  refine Finset.sum_congr rfl fun r _ => ?_
  refine congrArg₂ (· * ·) ?_ (congrArg a5 (eq_ix2 (ridx_main_v45 (ix4 b i k f) r)))
  have e40 : val_main_v40 (F := Ideal) a0 a1 (lidx_main_v45 (ix4 b i k f) r)
      = (seen a0 a1 a2 a4 a5 a6 a7 a8 a9 a10 b).dist i ((seen a0 a1 a2 a4 a5 a6 a7 a8 a9 a10 b).nb i k) - centre r := by
    rw [val_main_v40_apply, val_main_v39_apply, val_main_v38_apply, val_main_v37_apply, val_main_v36_apply]
    refine congrArg₂ (fun x y : EReal => x - y) ((congrArg _ (eq_ix3 _)).trans (see_near a0 a1 a2 a4 a5 a6 a7 a8 a9 a10 b i k))
      ((congrArg _ (eq_ix1 _)).trans (see_centre r))
  rw [val_main_v44_apply, val_main_v43_apply, val_main_v42_apply, val_main_v41_apply, e40, val_main_cst_5_apply]
  rfl

/-- The states at the start. -/
theorem see_start (b : Fin 200) (i : Fin 50) (f : Fin 128) :
    val_main_v47 (F := Ideal) a2 a4 (ix3 b i f) = (seen a0 a1 a2 a4 a5 a6 a7 a8 a9 a10 b).h0 i f := by
  rw [val_main_v47_apply]
  refine Finset.sum_congr rfl fun g _ => ?_
  refine congrArg₂ (· * ·) ?_ (congrArg a4 (eq_ix2 (ridx_main_v47 (ix3 b i f) g)))
  rw [val_main_v1_apply]
  refine congrArg a2 (funext fun a => Fin.ext ?_)
  match a with
  | ⟨0, _⟩ => show ((b.val * 50 + i.val) * 128 + g.val) / 128 = 50 * b.val + i.val; omega
  | ⟨1, _⟩ => show ((b.val * 50 + i.val) * 128 + g.val) % 128 = g.val; omega

end Crystal
-- ==== Proof.Crystal.Reduce.lean ====
module

public import Mathlib.Data.Real.Basic
public import Mathlib.Tactic.Ring
public import Mathlib.Tactic.LinearCombination
public import Mathlib.Tactic.FieldSimp
public import Mathlib.Tactic.FinCases
public import Mathlib.Tactic.Linarith
public import Mathlib.Data.Fin.Tuple.Basic
public import Mathlib.Data.Fintype.Basic

/-! The reduction of a three by three matrix of real numbers beside the identity, with partial pivoting: three rows of six
    numbers, and why what stands beside the identity at the end is the inverse. -/

@[expose] public section

noncomputable section

namespace Crystal

/-- The first three numbers of the row are the last three times the matrix. -/
def Keeps (A : Fin 3 → Fin 3 → ℝ) (r : Fin 6 → ℝ) : Prop :=
  ∀ c : Fin 3, r (Fin.castAdd 3 c) = r 3 * A 0 c + r 4 * A 1 c + r 5 * A 2 c

/-- The determinant of the first three numbers of three rows. -/
def vol (u v w : Fin 6 → ℝ) : ℝ :=
  u 0 * (v 1 * w 2 - v 2 * w 1) - u 1 * (v 0 * w 2 - v 2 * w 0) + u 2 * (v 0 * w 1 - v 1 * w 0)

/-- Three rows under reduction. -/
structure Stage (A : Fin 3 → Fin 3 → ℝ) (u v w : Fin 6 → ℝ) : Prop where
  first : Keeps A u
  second : Keeps A v
  third : Keeps A w
  vol_ne : vol u v w ≠ 0

/-- A row over its `j`-th number. -/
def quot (j : Fin 6) (r : Fin 6 → ℝ) (q : Fin 6) : ℝ := r q / r j

/-- A row less the multiple of another row that its `j`-th number names. -/
def less (j : Fin 6) (r p : Fin 6 → ℝ) (q : Fin 6) : ℝ := r q - r j * p q

/-- The row with the larger `j`-th number, the second of equals. -/
def pick (j : Fin 6) (r s : Fin 6 → ℝ) : Fin 6 → ℝ := if |s j| < |r j| then r else s

/-- The other row. -/
def leave (j : Fin 6) (r s : Fin 6 → ℝ) : Fin 6 → ℝ := if |s j| < |r j| then s else r

/-- The picked row has the larger number. -/
theorem leave_le (j : Fin 6) (r s : Fin 6 → ℝ) : |leave j r s j| ≤ |pick j r s j| := by
  unfold leave pick
  split
  · exact le_of_lt ‹_›
  · exact not_lt.mp ‹_›

/-- Neither row has a larger number than the picked row. -/
theorem le_pick (j : Fin 6) (r s : Fin 6 → ℝ) : |r j| ≤ |pick j r s j| ∧ |s j| ≤ |pick j r s j| := by
  unfold pick
  split
  · exact ⟨le_rfl, le_of_lt ‹_›⟩
  · exact ⟨not_lt.mp ‹_›, le_rfl⟩

variable {A : Fin 3 → Fin 3 → ℝ} {u v w p : Fin 6 → ℝ}

/-- A row over a number still keeps the matrix. -/
theorem Keeps.quot (h : Keeps A u) (j : Fin 6) : Keeps A (quot j u) := by
  intro c
  unfold Crystal.quot
  rw [h c]
  ring

/-- A row less a multiple of another still keeps the matrix. -/
theorem Keeps.less (h : Keeps A u) (h' : Keeps A p) (j : Fin 6) : Keeps A (less j u p) := by
  intro c
  unfold Crystal.less
  rw [h c, h' c]
  ring

/-- The first two rows exchanged. -/
theorem Stage.swap (h : Stage A u v w) : Stage A v u w :=
  ⟨h.second, h.first, h.third, fun e => h.vol_ne (by unfold vol at e ⊢; linear_combination -e)⟩

/-- The first and the third row exchanged. -/
theorem Stage.swap' (h : Stage A u v w) : Stage A w v u :=
  ⟨h.third, h.second, h.first, fun e => h.vol_ne (by unfold vol at e ⊢; linear_combination -e)⟩

/-- The last two rows exchanged. -/
theorem Stage.swap'' (h : Stage A u v w) : Stage A u w v :=
  ⟨h.first, h.third, h.second, fun e => h.vol_ne (by unfold vol at e ⊢; linear_combination -e)⟩

/-- The first row picked out of the first and the second. -/
theorem Stage.pick (h : Stage A u v w) (j : Fin 6) : Stage A (pick j v u) (leave j v u) w := by
  unfold Crystal.pick Crystal.leave
  split
  · exact h.swap
  · exact h

/-- The first row picked out of the first and the third. -/
theorem Stage.pick' (h : Stage A u v w) (j : Fin 6) : Stage A (Crystal.pick j w u) v (leave j w u) := by
  unfold Crystal.pick Crystal.leave
  split
  · exact h.swap'
  · exact h

/-- The second row picked out of the second and the third. -/
theorem Stage.pick'' (h : Stage A u v w) (j : Fin 6) : Stage A u (Crystal.pick j w v) (leave j w v) := by
  unfold Crystal.pick Crystal.leave
  split
  · exact h.swap''
  · exact h

/-- The first row divided. -/
theorem Stage.quot (h : Stage A u v w) (j : Fin 6) (hj : u j ≠ 0) : Stage A (Crystal.quot j u) v w :=
  ⟨h.first.quot j, h.second, h.third, fun e => h.vol_ne (by
    have e' : vol (Crystal.quot j u) v w = vol u v w / u j := by unfold vol Crystal.quot; ring
    rw [e', div_eq_zero_iff] at e
    exact e.resolve_right hj)⟩

/-- A multiple of the first row taken from the second. -/
theorem Stage.less (h : Stage A u v w) (j : Fin 6) : Stage A u (Crystal.less j v u) w :=
  ⟨h.first, h.second.less h.first j, h.third, fun e => h.vol_ne (by
    unfold vol Crystal.less at e
    unfold vol
    linear_combination e)⟩

/-- If the first row has the largest first number, that number is not zero. -/
theorem Stage.first_ne (h : Stage A u v w) (hv : |v 0| ≤ |u 0|) (hw : |w 0| ≤ |u 0|) : u 0 ≠ 0 := by
  intro e
  rw [e, abs_zero] at hv hw
  have hv0 : v 0 = 0 := abs_nonpos_iff.mp hv
  have hw0 : w 0 = 0 := abs_nonpos_iff.mp hw
  exact h.vol_ne (by unfold vol; rw [e, hv0, hw0]; ring)

/-- If the first column is done and the second row has the larger second number, that number is not zero. -/
theorem Stage.second_ne (h : Stage A u v w) (hv : v 0 = 0) (hw : w 0 = 0) (hvw : |w 1| ≤ |v 1|) : v 1 ≠ 0 := by
  intro e
  rw [e, abs_zero] at hvw
  have hw1 : w 1 = 0 := abs_nonpos_iff.mp hvw
  exact h.vol_ne (by unfold vol; rw [hv, hw, e, hw1]; ring)

/-- If the first two columns are done, the third number of the third row is not zero. -/
theorem Stage.third_ne (h : Stage A u v w) (hv : v 0 = 0) (hw : w 0 = 0) (hw1 : w 1 = 0) : w 2 ≠ 0 := by
  intro e
  exact h.vol_ne (by unfold vol; rw [hv, hw, hw1, e]; ring)

/-! ## The whole reduction -/

/-- The first row of the first step, the second and the third. -/
def one0 (u v w : Fin 6 → ℝ) : Fin 6 → ℝ := pick 0 w (pick 0 v u)
@[inherit_doc one0] def one1 (u v : Fin 6 → ℝ) : Fin 6 → ℝ := leave 0 v u
@[inherit_doc one0] def one2 (u v w : Fin 6 → ℝ) : Fin 6 → ℝ := leave 0 w (pick 0 v u)

/-- The three rows after the first column. -/
def two0 (u v w : Fin 6 → ℝ) : Fin 6 → ℝ := quot 0 (one0 u v w)
@[inherit_doc two0] def two1 (u v w : Fin 6 → ℝ) : Fin 6 → ℝ := less 0 (one1 u v) (two0 u v w)
@[inherit_doc two0] def two2 (u v w : Fin 6 → ℝ) : Fin 6 → ℝ := less 0 (one2 u v w) (two0 u v w)

/-- The last two rows before the second column. -/
def three1 (u v w : Fin 6 → ℝ) : Fin 6 → ℝ := pick 1 (two2 u v w) (two1 u v w)
@[inherit_doc three1] def three2 (u v w : Fin 6 → ℝ) : Fin 6 → ℝ := leave 1 (two2 u v w) (two1 u v w)

/-- The three rows after the second column. -/
def four1 (u v w : Fin 6 → ℝ) : Fin 6 → ℝ := quot 1 (three1 u v w)
@[inherit_doc four1] def four0 (u v w : Fin 6 → ℝ) : Fin 6 → ℝ := less 1 (two0 u v w) (four1 u v w)
@[inherit_doc four1] def four2 (u v w : Fin 6 → ℝ) : Fin 6 → ℝ := less 1 (three2 u v w) (four1 u v w)

/-- The three rows after the third column. -/
def five2 (u v w : Fin 6 → ℝ) : Fin 6 → ℝ := quot 2 (four2 u v w)
@[inherit_doc five2] def five0 (u v w : Fin 6 → ℝ) : Fin 6 → ℝ := less 2 (four0 u v w) (five2 u v w)
@[inherit_doc five2] def five1 (u v w : Fin 6 → ℝ) : Fin 6 → ℝ := less 2 (four1 u v w) (five2 u v w)

/-- The number that clears a column is one after the division. -/
theorem quot_self (j : Fin 6) (h : u j ≠ 0) : quot j u j = 1 := div_self h

/-- A number that is zero stays zero after a division. -/
theorem quot_zero (j q : Fin 6) (h : u q = 0) : quot j u q = 0 := by unfold quot; rw [h, zero_div]

/-- The cleared number is zero. -/
theorem less_self (j : Fin 6) (h : p j = 1) : less j u p j = 0 := by unfold less; rw [h]; ring

/-- A number stays where the row taken away has a zero. -/
theorem less_same (j q : Fin 6) (h : p q = 0) : less j u p q = u q := by unfold less; rw [h]; ring

section
variable (h : Stage A u v w)
include h

/-- The rows before the first division. -/
theorem stage_one : Stage A (one0 u v w) (one1 u v) (one2 u v w) ∧ one0 u v w 0 ≠ 0 := by
  have s := (h.pick 0).pick' 0
  refine ⟨s, s.first_ne ?_ ?_⟩
  · exact (leave_le 0 v u).trans (le_pick 0 w (pick 0 v u)).2
  · exact leave_le 0 w (pick 0 v u)

/-- The rows after the first column. -/
theorem stage_two : Stage A (two0 u v w) (two1 u v w) (two2 u v w)
    ∧ two0 u v w 0 = 1 ∧ two1 u v w 0 = 0 ∧ two2 u v w 0 = 0 := by
  obtain ⟨s, h0⟩ := stage_one h
  have e : two0 u v w 0 = 1 := quot_self 0 h0
  exact ⟨((s.quot 0 h0).less 0).swap''.less 0 |>.swap'', e, less_self 0 e, less_self 0 e⟩

/-- The rows before the second division. -/
theorem stage_three : Stage A (two0 u v w) (three1 u v w) (three2 u v w)
    ∧ three1 u v w 0 = 0 ∧ three2 u v w 0 = 0 ∧ three1 u v w 1 ≠ 0 := by
  obtain ⟨s, h0, h1, h2⟩ := stage_two h
  have e1 : three1 u v w 0 = 0 := by
    unfold three1 pick
    split
    · exact h2
    · exact h1
  have e2 : three2 u v w 0 = 0 := by
    unfold three2 leave
    split
    · exact h1
    · exact h2
  have s' := s.pick'' 1
  exact ⟨s', e1, e2, s'.second_ne e1 e2 (leave_le 1 (two2 u v w) (two1 u v w))⟩

/-- The rows after the second column. -/
theorem stage_four : Stage A (four0 u v w) (four1 u v w) (four2 u v w)
    ∧ four0 u v w 0 = 1 ∧ four0 u v w 1 = 0 ∧ four1 u v w 0 = 0 ∧ four1 u v w 1 = 1 ∧ four2 u v w 0 = 0
    ∧ four2 u v w 1 = 0 := by
  obtain ⟨s, h1, h2, h11⟩ := stage_three h
  obtain ⟨_, h0, _, _⟩ := stage_two h
  have e1 : four1 u v w 1 = 1 := quot_self 1 h11
  have e0 : four1 u v w 0 = 0 := quot_zero 1 0 h1
  have s' : Stage A (four1 u v w) (two0 u v w) (three2 u v w) := s.swap.quot 1 h11
  have s'' : Stage A (four1 u v w) (four0 u v w) (three2 u v w) := s'.less 1
  have s3 : Stage A (four1 u v w) (four2 u v w) (four0 u v w) := s''.swap''.less 1
  exact ⟨s3.swap''.swap, (less_same 1 0 e0).trans h0, less_self 1 e1, e0, e1, (less_same 1 0 e0).trans h2,
    less_self 1 e1⟩

/-- The rows after the third column: the identity, and what keeps the matrix. -/
theorem stage_five : (Keeps A (five0 u v w) ∧ Keeps A (five1 u v w) ∧ Keeps A (five2 u v w))
    ∧ (five0 u v w 0 = 1 ∧ five0 u v w 1 = 0 ∧ five0 u v w 2 = 0)
    ∧ (five1 u v w 0 = 0 ∧ five1 u v w 1 = 1 ∧ five1 u v w 2 = 0)
    ∧ (five2 u v w 0 = 0 ∧ five2 u v w 1 = 0 ∧ five2 u v w 2 = 1) := by
  obtain ⟨s, h00, h01, h10, h11, h20, h21⟩ := stage_four h
  have h22 := s.third_ne h10 h20 h21
  have e2 : five2 u v w 2 = 1 := quot_self 2 h22
  have e1 : five2 u v w 1 = 0 := quot_zero 2 1 h21
  have e0 : five2 u v w 0 = 0 := quot_zero 2 0 h20
  have k2 : Keeps A (five2 u v w) := s.third.quot 2
  exact ⟨⟨s.first.less k2 2, s.second.less k2 2, k2⟩,
    ⟨(less_same 2 0 e0).trans h00, (less_same 2 1 e1).trans h01, less_self 2 e2⟩,
    ⟨(less_same 2 0 e0).trans h10, (less_same 2 1 e1).trans h11, less_self 2 e2⟩, e0, e1, e2⟩

/-- The numbers before division that the reduction divides by are not zero. -/
theorem stage_pivots : one0 u v w 0 ≠ 0 ∧ three1 u v w 1 ≠ 0 ∧ four2 u v w 2 ≠ 0 := by
  obtain ⟨s, _, _, h10, _, h20, h21⟩ := stage_four h
  exact ⟨(stage_one h).2, (stage_three h).2.2.2, s.third_ne h10 h20 h21⟩

end

/-! ## The inverse -/

/-- The cofactor of a real matrix. -/
def minorR (A : Fin 3 → Fin 3 → ℝ) (p q : Fin 3) : ℝ :=
  A (p + 1) (q + 1) * A (p + 2) (q + 2) - A (p + 1) (q + 2) * A (p + 2) (q + 1)

/-- The determinant of a real matrix, along the first row. -/
def detR (A : Fin 3 → Fin 3 → ℝ) : ℝ := (A 0 0 * minorR A 0 0 + A 0 1 * minorR A 0 1) + A 0 2 * minorR A 0 2

/-- A row times the matrix times the cofactors is the row times the determinant. -/
theorem row_cofactors (A : Fin 3 → Fin 3 → ℝ) (r : Fin 6 → ℝ) (h : Keeps A r) (q : Fin 3) :
    r (Fin.natAdd 3 q) * detR A = r 0 * minorR A q 0 + r 1 * minorR A q 1 + r 2 * minorR A q 2 := by
  have h0 : r 0 = r 3 * A 0 0 + r 4 * A 1 0 + r 5 * A 2 0 := h 0
  have h1 : r 1 = r 3 * A 0 1 + r 4 * A 1 1 + r 5 * A 2 1 := h 1
  have h2 : r 2 = r 3 * A 0 2 + r 4 * A 1 2 + r 5 * A 2 2 := h 2
  rw [h0, h1, h2]
  unfold detR minorR
  match q with
  | ⟨0, _⟩ =>
    show r 3 * ((A 0 0 * (A 1 1 * A 2 2 - A 1 2 * A 2 1) + A 0 1 * (A 1 2 * A 2 0 - A 1 0 * A 2 2))
        + A 0 2 * (A 1 0 * A 2 1 - A 1 1 * A 2 0))
      = (r 3 * A 0 0 + r 4 * A 1 0 + r 5 * A 2 0) * (A 1 1 * A 2 2 - A 1 2 * A 2 1)
        + (r 3 * A 0 1 + r 4 * A 1 1 + r 5 * A 2 1) * (A 1 2 * A 2 0 - A 1 0 * A 2 2)
        + (r 3 * A 0 2 + r 4 * A 1 2 + r 5 * A 2 2) * (A 1 0 * A 2 1 - A 1 1 * A 2 0)
    ring
  | ⟨1, _⟩ =>
    show r 4 * ((A 0 0 * (A 1 1 * A 2 2 - A 1 2 * A 2 1) + A 0 1 * (A 1 2 * A 2 0 - A 1 0 * A 2 2))
        + A 0 2 * (A 1 0 * A 2 1 - A 1 1 * A 2 0))
      = (r 3 * A 0 0 + r 4 * A 1 0 + r 5 * A 2 0) * (A 2 1 * A 0 2 - A 2 2 * A 0 1)
        + (r 3 * A 0 1 + r 4 * A 1 1 + r 5 * A 2 1) * (A 2 2 * A 0 0 - A 2 0 * A 0 2)
        + (r 3 * A 0 2 + r 4 * A 1 2 + r 5 * A 2 2) * (A 2 0 * A 0 1 - A 2 1 * A 0 0)
    ring
  | ⟨2, _⟩ =>
    show r 5 * ((A 0 0 * (A 1 1 * A 2 2 - A 1 2 * A 2 1) + A 0 1 * (A 1 2 * A 2 0 - A 1 0 * A 2 2))
        + A 0 2 * (A 1 0 * A 2 1 - A 1 1 * A 2 0))
      = (r 3 * A 0 0 + r 4 * A 1 0 + r 5 * A 2 0) * (A 0 1 * A 1 2 - A 0 2 * A 1 1)
        + (r 3 * A 0 1 + r 4 * A 1 1 + r 5 * A 2 1) * (A 0 2 * A 1 0 - A 0 0 * A 1 2)
        + (r 3 * A 0 2 + r 4 * A 1 2 + r 5 * A 2 2) * (A 0 0 * A 1 1 - A 0 1 * A 1 0)
    ring

/-- Row `p` of a matrix beside the identity. -/
def beside (A : Fin 3 → Fin 3 → ℝ) (p : Fin 3) : Fin 6 → ℝ :=
  Fin.append (A p) fun q => if p = q then 1 else 0

/-- The rows beside the identity are three rows under reduction, when the determinant is not zero. -/
theorem stage_start (hA : detR A ≠ 0) : Stage A (beside A 0) (beside A 1) (beside A 2) := by
  have k : ∀ p, Keeps A (beside A p) := by
    intro p c
    have e : ∀ q : Fin 3, beside A p (Fin.natAdd 3 q) = if p = q then 1 else 0 := fun q => Fin.append_right _ _ _
    have e3 : beside A p 3 = if p = 0 then 1 else 0 := e 0
    have e4 : beside A p 4 = if p = 1 then 1 else 0 := e 1
    have e5 : beside A p 5 = if p = 2 then 1 else 0 := e 2
    have e0 : beside A p (Fin.castAdd 3 c) = A p c := Fin.append_left _ _ _
    rw [e0, e3, e4, e5]
    fin_cases p <;> simp
  refine ⟨k 0, k 1, k 2, fun e => hA ?_⟩
  have l : ∀ p (c : Fin 3), beside A p (Fin.castAdd 3 c) = A p c := fun p c => Fin.append_left _ _ _
  have l0 : ∀ p, beside A p 0 = A p 0 := fun p => l p 0
  have l1 : ∀ p, beside A p 1 = A p 1 := fun p => l p 1
  have l2 : ∀ p, beside A p 2 = A p 2 := fun p => l p 2
  unfold vol at e
  simp only [l0, l1, l2] at e
  unfold detR minorR
  show (A 0 0 * (A 1 1 * A 2 2 - A 1 2 * A 2 1) + A 0 1 * (A 1 2 * A 2 0 - A 1 0 * A 2 2))
        + A 0 2 * (A 1 0 * A 2 1 - A 1 1 * A 2 0) = 0
  linear_combination e

/-- What stands beside the identity at the end is the inverse. -/
theorem reduced (hA : detR A ≠ 0) (q : Fin 3) :
    five0 (beside A 0) (beside A 1) (beside A 2) (Fin.natAdd 3 q) = minorR A q 0 / detR A
      ∧ five1 (beside A 0) (beside A 1) (beside A 2) (Fin.natAdd 3 q) = minorR A q 1 / detR A
      ∧ five2 (beside A 0) (beside A 1) (beside A 2) (Fin.natAdd 3 q) = minorR A q 2 / detR A := by
  obtain ⟨⟨k0, k1, k2⟩, ⟨h00, h01, h02⟩, ⟨h10, h11, h12⟩, h20, h21, h22⟩ := stage_five (stage_start hA)
  refine ⟨?_, ?_, ?_⟩ <;> rw [eq_div_iff hA]
  · rw [row_cofactors A _ k0 q, h00, h01, h02]; ring
  · rw [row_cofactors A _ k1 q, h10, h11, h12]; ring
  · rw [row_cofactors A _ k2 q, h20, h21, h22]; ring

end Crystal
-- ==== Proof.Crystal.Eliminate.lean ====
module

public import proofs.«01_k».proof.Proof.Crystal.Given
public import proofs.«01_k».proof.Proof.Crystal.Prefix
public import proofs.«01_k».proof.Proof.Crystal.Reduce
public import proofs.«01_k».proof.Proof.Gen.ReferenceIdeal.Read

/-! The reduction of the cells in the reference, read at one crystal: its tables hold the rows of the reduction of real numbers, and
    so its inverse is the inverse by cofactors. -/

@[expose] public section

noncomputable section

namespace Crystal

open Idealize.ShloMosaic Idealize.ShloMosaic.ValueIdx Cert.ReferenceIdeal Cert.ReferenceIdeal.Gen Cert.ReferenceIdeal.Read

/-! ## Steps on whole tables -/

/-- The tables' entries at crystal `b` are the real numbers of the row. -/
def IsRow (b : Fin 200) (X : FVec Ideal S200x6 .f32) (r : Fin 6 → ℝ) : Prop := ∀ q, X (ix2 b q) = ((r q : ℝ) : EReal)

section
variable (o : ℕ) (ho : S200x6.Slices ![0, o] S200x1) (X Y P : FVec Ideal S200x6 .f32)

/-- One column of the table. -/
def tableColumn : FVec Ideal S200x1 .f32 := extractStridedSlice S200x1 ![0, o] X ho

/-- One column of the table, along every column. -/
def tableSpread : FVec Ideal S200x6 .f32 :=
  broadcastInDim S200x6 ![0, 1] bcast_S200x1_S200x6_0_1 (tableColumn o ho X)

/-- The table over one of its columns. -/
def tableQuot : FVec Ideal S200x6 .f32 := Host.divf (F := Ideal) (φ := .f32) X (tableSpread o ho X)

/-- The table less a multiple of another. -/
def tableLess : FVec Ideal S200x6 .f32 := subf X (mulf (tableSpread o ho X) P)

/-- One column of the table without its sign. -/
def tableSize : FVec Ideal S200 .f32 :=
  Host.absf (F := Ideal) (φ := .f32) (shapeCast S200 (tableColumn o ho X) shapeCasts_S200x1_S200)

/-- Where the column of the first table is larger. -/
def tableLarger : IVec S200x6 1 :=
  broadcastInDim S200x6 ![0, 1] bcast_S200x1_S200x6_0_1 (broadcastInDim S200x1 ![0] bcast_S200_S200x1_0
    (cmpf (F := Ideal) (φ := .f32) .ogt (tableSize o ho X) (tableSize o ho Y)))

/-- The table with the larger column. -/
def tablePick : FVec Ideal S200x6 .f32 := select (tableLarger o ho X Y) X Y

/-- The other table. -/
def tableLeave : FVec Ideal S200x6 .f32 := select (tableLarger o ho X Y) Y X

variable (j : Fin 6) (hj : j.val = o) (b : Fin 200)
include hj

/-- A column at one crystal. -/
theorem tableColumn_apply : tableColumn o ho X (ix2 b (0 : Fin 1)) = X (ix2 b j) :=
  extractStridedSlice_apply ![0, o] X ho (ix2 b (0 : Fin 1)) (ix2 b j) fun a => match a with
    | ⟨0, _⟩ => (Nat.zero_add _).symm
    | ⟨1, _⟩ => by show j.val = o + 0; omega

/-- A spread column at one crystal. -/
theorem tableSpread_apply (q : Fin 6) : tableSpread o ho X (ix2 b q) = X (ix2 b j) :=
  (broadcastInDim_apply ![0, 1] bcast_S200x1_S200x6_0_1 (tableColumn o ho X) (ix2 b q) (ix2 b (0 : Fin 1)) fun a => match a with
    | ⟨0, _⟩ => rfl
    | ⟨1, _⟩ => rfl).trans (tableColumn_apply o ho X j hj b)

/-- The size of a column at one crystal. -/
theorem tableSize_apply : tableSize o ho X (ix1 b) = max (X (ix2 b j)) (-(X (ix2 b j))) := by
  have e : shapeCast S200 (tableColumn o ho X) shapeCasts_S200x1_S200 (ix1 b) = X (ix2 b j) := by
    refine (shapeCast_apply (tableColumn o ho X) shapeCasts_S200x1_S200 (ix1 b) (ix2 b (0 : Fin 1)) ?_).trans
      (tableColumn_apply o ho X j hj b)
    rw [Shape.rowMajor_val_two, Shape.rowMajor_val_one]
    show b.val * 1 + 0 = b.val
    omega
  show max (shapeCast S200 (tableColumn o ho X) shapeCasts_S200x1_S200 (ix1 b)) (-(shapeCast S200 (tableColumn o ho X) shapeCasts_S200x1_S200 (ix1 b))) = _
  rw [e]

/-- Where the column is larger at one crystal. -/
theorem tableLarger_apply (r s : Fin 6 → ℝ) (hX : IsRow b X r) (hY : IsRow b Y s) (q : Fin 6) :
    tableLarger o ho X Y (ix2 b q) = BitVec.ofBool (decide (|s j| < |r j|)) := by
  have e : ∀ t : ℝ, max (t : EReal) (-(t : EReal)) = ((|t| : ℝ) : EReal) := fun t => by
    rw [← EReal.coe_neg]; exact (EReal.coe_strictMono.monotone.map_max).symm
  refine (broadcastInDim_apply ![0, 1] bcast_S200x1_S200x6_0_1 _ (ix2 b q) (ix2 b (0 : Fin 1)) fun a => match a with
    | ⟨0, _⟩ => rfl
    | ⟨1, _⟩ => rfl).trans ?_
  refine (broadcastInDim_apply ![0] bcast_S200_S200x1_0 _ (ix2 b (0 : Fin 1)) (ix1 b) fun a => match a with
    | ⟨0, _⟩ => rfl).trans ?_
  show Ideal.cmp .ogt (tableSize o ho X (ix1 b)) (tableSize o ho Y (ix1 b)) = _
  rw [tableSize_apply o ho X j hj b, tableSize_apply o ho Y j hj b, hX j, hY j, e, e]
  show BitVec.ofBool (decide (((|s j| : ℝ) : EReal) < ((|r j| : ℝ) : EReal))) = _
  simp only [EReal.coe_lt_coe_iff]

/-- The picked table holds the picked row. -/
theorem IsRow.pick (r s : Fin 6 → ℝ) (hX : IsRow b X r) (hY : IsRow b Y s) : IsRow b (tablePick o ho X Y) (pick j r s) := by
  intro q
  show Scalar.select (tableLarger o ho X Y (ix2 b q)) (X (ix2 b q)) (Y (ix2 b q)) = _
  rw [tableLarger_apply o ho X Y j hj b r s hX hY q]
  unfold Crystal.pick
  by_cases h : |s j| < |r j|
  · rw [if_pos h, decide_eq_true h]
    exact hX q
  · rw [if_neg h, decide_eq_false h]
    exact hY q

/-- The other table holds the other row. -/
theorem IsRow.leave (r s : Fin 6 → ℝ) (hX : IsRow b X r) (hY : IsRow b Y s) : IsRow b (tableLeave o ho X Y) (leave j r s) := by
  intro q
  show Scalar.select (tableLarger o ho X Y (ix2 b q)) (Y (ix2 b q)) (X (ix2 b q)) = _
  rw [tableLarger_apply o ho X Y j hj b r s hX hY q]
  unfold Crystal.leave
  by_cases h : |s j| < |r j|
  · rw [if_pos h, decide_eq_true h]
    exact hY q
  · rw [if_neg h, decide_eq_false h]
    exact hX q

/-- The divided table holds the divided row. -/
theorem IsRow.quot (r : Fin 6 → ℝ) (hX : IsRow b X r) (h : r j ≠ 0) : IsRow b (tableQuot o ho X) (quot j r) := by
  intro q
  show Ideal.div (X (ix2 b q)) (tableSpread o ho X (ix2 b q)) = _
  rw [tableSpread_apply o ho X j hj b q, hX q, hX j, Ideal.div_coe h, ← EReal.coe_mul]
  unfold Crystal.quot
  rw [_root_.mul_one_div]

/-- The table less a multiple holds the row less the multiple. -/
theorem IsRow.less (r s : Fin 6 → ℝ) (hX : IsRow b X r) (hP : IsRow b P s) : IsRow b (tableLess o ho X P) (less j r s) := by
  intro q
  show X (ix2 b q) - tableSpread o ho X (ix2 b q) * P (ix2 b q) = _
  rw [tableSpread_apply o ho X j hj b q, hX q, hX j, hP q, ← EReal.coe_mul, ← EReal.coe_sub]
  rfl

end

/-! ## The cells beside the identity -/

/-- The identity. -/
theorem see_eye (b : Fin 200) (p q : Fin 3) :
    val_main_v54 (F := Ideal) (ix3 b p q) = (((if p = q then 1 else 0 : ℝ)) : EReal) := by
  rw [val_main_v54_apply]
  show (((BitVec.ofBool (decide (BitVec.ofNat 32 p.val + 0#32 = BitVec.ofNat 32 q.val))).toNat : ℝ) : EReal) = _
  fin_cases p <;> fin_cases q <;> simp

section
variable (x0 : FVec Ideal S200x3x3 .f32) (b : Fin 200) (A : Fin 3 → Fin 3 → ℝ)
  (hA : ∀ p q, x0 (ix3 b p q) = ((A p q : ℝ) : EReal))
include hA

/-- Two halves beside each other hold a row beside the identity. -/
theorem isRow_beside (p : Fin 3) (X E : FVec Ideal S200x3 .f32) (hX : ∀ q, X (ix2 b q) = x0 (ix3 b p q))
    (hE : ∀ q, E (ix2 b q) = val_main_v54 (F := Ideal) (ix3 b p q)) :
    IsRow b (concatenate S200x6 1 [⟨S200x3, X⟩, ⟨S200x3, E⟩] concatenates_S200x3_S200x3_S200x6_d1) (beside A p) := by
  intro q
  unfold beside
  induction q using Fin.addCases (m := 3) (n := 3) with
  | left q =>
    refine (concatenate_pair_apply_left (s₁ := S200x3) (s₂ := S200x3) 1 X E concatenates_S200x3_S200x3_S200x6_d1 (ix2 b (Fin.castAdd 3 q)) rfl (ix2 b q)
      (fun a => match a with
        | ⟨0, _⟩ => rfl
        | ⟨1, _⟩ => rfl)).trans ?_
    rw [Fin.append_left, hX, hA]
  | right q =>
    refine (concatenate_pair_apply_right (s₁ := S200x3) (s₂ := S200x3) 1 X E concatenates_S200x3_S200x3_S200x6_d1 (ix2 b (Fin.natAdd 3 q)) rfl rfl (ix2 b q)
      (fun a ha => match a with
        | ⟨0, _⟩ => rfl
        | ⟨1, _⟩ => absurd rfl ha) ?_).trans ?_
    · show q.val + 3 = 3 + q.val
      omega
    rw [Fin.append_right, hE, see_eye]

omit hA in
/-- A row of a table of matrices. -/
theorem row_of (o : ℕ) (Y : FVec Ideal S200x3x3 .f32) (ho : S200x3x3.Slices ![0, o, 0] S200x1x3) (p : Fin 3) (hp : p.val = o) (q : Fin 3) :
    shapeCast S200x3 (extractStridedSlice S200x1x3 ![0, o, 0] Y ho) shapeCasts_S200x1x3_S200x3 (ix2 b q) = Y (ix3 b p q) := by
  refine (shapeCast_apply _ shapeCasts_S200x1x3_S200x3 (ix2 b q) (ix3 b (0 : Fin 1) q) ?_).trans ?_
  · rw [Shape.rowMajor_val_three, Shape.rowMajor_val_two]
    show (b.val * 1 + 0) * 3 + q.val = b.val * 3 + q.val
    omega
  · exact extractStridedSlice_apply ![0, o, 0] Y ho (ix3 b (0 : Fin 1) q) (ix3 b p q) fun a => match a with
      | ⟨0, _⟩ => (Nat.zero_add _).symm
      | ⟨1, _⟩ => by show p.val = o + 0; omega
      | ⟨2, _⟩ => (Nat.zero_add _).symm

/-- The three rows that the reduction starts from. -/
theorem see_rows : IsRow b (val_main_v59 (F := Ideal) x0) (beside A 0) ∧ IsRow b (val_main_v64 (F := Ideal) x0) (beside A 1)
    ∧ IsRow b (val_main_v69 (F := Ideal) x0) (beside A 2) :=
  ⟨isRow_beside x0 b A hA 0 _ _ (row_of b 0 x0 slices_S200x3x3_S200x1x3_0_0_0 0 rfl)
      (row_of b 0 (val_main_v54 (F := Ideal)) slices_S200x3x3_S200x1x3_0_0_0 0 rfl),
    isRow_beside x0 b A hA 1 _ _ (row_of b 1 x0 slices_S200x3x3_S200x1x3_0_1_0 1 rfl)
      (row_of b 1 (val_main_v54 (F := Ideal)) slices_S200x3x3_S200x1x3_0_1_0 1 rfl),
    isRow_beside x0 b A hA 2 _ _ (row_of b 2 x0 slices_S200x3x3_S200x1x3_0_2_0 2 rfl)
      (row_of b 2 (val_main_v54 (F := Ideal)) slices_S200x3x3_S200x1x3_0_2_0 2 rfl)⟩

variable (hd : detR A ≠ 0)
include hd

/-- The rows after the first column. -/
theorem see_two : IsRow b (val_main_v92 (F := Ideal) x0) (two0 (beside A 0) (beside A 1) (beside A 2))
    ∧ IsRow b (val_main_v96 (F := Ideal) x0) (two1 (beside A 0) (beside A 1) (beside A 2))
    ∧ IsRow b (val_main_v100 (F := Ideal) x0) (two2 (beside A 0) (beside A 1) (beside A 2)) := by
  obtain ⟨h0, h1, h2⟩ := see_rows x0 b A hA
  have h78 : IsRow b (val_main_v78 (F := Ideal) x0) _ := IsRow.pick 0 slices_S200x6_S200x1_0_0 _ _ 0 rfl b _ _ h1 h0
  have h79 : IsRow b (val_main_v79 (F := Ideal) x0) _ := IsRow.leave 0 slices_S200x6_S200x1_0_0 _ _ 0 rfl b _ _ h1 h0
  have h88 : IsRow b (val_main_v88 (F := Ideal) x0) (one0 (beside A 0) (beside A 1) (beside A 2)) :=
    IsRow.pick 0 slices_S200x6_S200x1_0_0 _ _ 0 rfl b _ _ h2 h78
  have h89 : IsRow b (val_main_v89 (F := Ideal) x0) (one2 (beside A 0) (beside A 1) (beside A 2)) :=
    IsRow.leave 0 slices_S200x6_S200x1_0_0 _ _ 0 rfl b _ _ h2 h78
  have h92 : IsRow b (val_main_v92 (F := Ideal) x0) (two0 (beside A 0) (beside A 1) (beside A 2)) :=
    IsRow.quot 0 slices_S200x6_S200x1_0_0 _ 0 rfl b _ h88 (stage_pivots (stage_start hd)).1
  exact ⟨h92, IsRow.less 0 slices_S200x6_S200x1_0_0 _ _ 0 rfl b _ _ h79 h92,
    IsRow.less 0 slices_S200x6_S200x1_0_0 _ _ 0 rfl b _ _ h89 h92⟩

/-- The rows after the second column. -/
theorem see_four : IsRow b (val_main_v117 (F := Ideal) x0) (four0 (beside A 0) (beside A 1) (beside A 2))
    ∧ IsRow b (val_main_v113 (F := Ideal) x0) (four1 (beside A 0) (beside A 1) (beside A 2))
    ∧ IsRow b (val_main_v121 (F := Ideal) x0) (four2 (beside A 0) (beside A 1) (beside A 2)) := by
  obtain ⟨h0, h1, h2⟩ := see_two x0 b A hA hd
  have h109 : IsRow b (val_main_v109 (F := Ideal) x0) (three1 (beside A 0) (beside A 1) (beside A 2)) :=
    IsRow.pick 1 slices_S200x6_S200x1_0_1 _ _ 1 rfl b _ _ h2 h1
  have h110 : IsRow b (val_main_v110 (F := Ideal) x0) (three2 (beside A 0) (beside A 1) (beside A 2)) :=
    IsRow.leave 1 slices_S200x6_S200x1_0_1 _ _ 1 rfl b _ _ h2 h1
  have h113 : IsRow b (val_main_v113 (F := Ideal) x0) (four1 (beside A 0) (beside A 1) (beside A 2)) :=
    IsRow.quot 1 slices_S200x6_S200x1_0_1 _ 1 rfl b _ h109 (stage_pivots (stage_start hd)).2.1
  exact ⟨IsRow.less 1 slices_S200x6_S200x1_0_1 _ _ 1 rfl b _ _ h0 h113, h113,
    IsRow.less 1 slices_S200x6_S200x1_0_1 _ _ 1 rfl b _ _ h110 h113⟩

/-- The rows after the third column. -/
theorem see_five : IsRow b (val_main_v128 (F := Ideal) x0) (five0 (beside A 0) (beside A 1) (beside A 2))
    ∧ IsRow b (val_main_v132 (F := Ideal) x0) (five1 (beside A 0) (beside A 1) (beside A 2))
    ∧ IsRow b (val_main_v124 (F := Ideal) x0) (five2 (beside A 0) (beside A 1) (beside A 2)) := by
  obtain ⟨h0, h1, h2⟩ := see_four x0 b A hA hd
  have h124 : IsRow b (val_main_v124 (F := Ideal) x0) (five2 (beside A 0) (beside A 1) (beside A 2)) :=
    IsRow.quot 2 slices_S200x6_S200x1_0_2 _ 2 rfl b _ h2 (stage_pivots (stage_start hd)).2.2
  exact ⟨IsRow.less 2 slices_S200x6_S200x1_0_2 _ _ 2 rfl b _ _ h0 h124, IsRow.less 2 slices_S200x6_S200x1_0_2 _ _ 2 rfl b _ _ h1 h124,
    h124⟩

omit hd in
/-- The cofactor of the cell is the cofactor of its real numbers. -/
theorem minor_coe (p q : Fin 3) : minor (fun p q => x0 (ix3 b p q)) p q = ((minorR A p q : ℝ) : EReal) := by
  unfold minor minorR
  beta_reduce
  rw [hA, hA, hA, hA, ← EReal.coe_mul, ← EReal.coe_mul, ← EReal.coe_sub]

omit hd in
/-- The determinant of the cell is the determinant of its real numbers. -/
theorem det3_coe : det3 (fun p q => x0 (ix3 b p q)) = ((detR A : ℝ) : EReal) := by
  unfold det3 detR
  rw [minor_coe x0 b A hA, minor_coe x0 b A hA, minor_coe x0 b A hA]
  beta_reduce
  rw [hA, hA, hA, ← EReal.coe_mul, ← EReal.coe_mul, ← EReal.coe_mul,
    ← EReal.coe_add, ← EReal.coe_add]

omit hA hd in
/-- The last three numbers of the row of a table. -/
theorem tail_of (X : FVec Ideal S200x6 .f32) (r : Fin 6 → ℝ) (hX : IsRow b X r) (q : Fin 3) :
    extractStridedSlice S200x3 ![0, 3] X slices_S200x6_S200x3_0_3 (ix2 b q) = ((r (Fin.natAdd 3 q) : ℝ) : EReal) :=
  (extractStridedSlice_apply ![0, 3] X slices_S200x6_S200x3_0_3 (ix2 b q) (ix2 b (Fin.natAdd 3 q)) fun a => match a with
    | ⟨0, _⟩ => (Nat.zero_add _).symm
    | ⟨1, _⟩ => rfl).trans (hX _)

/-- The inverse by reduction is the inverse by cofactors. -/
theorem see_inverse (p q : Fin 3) : val_main_v139 (F := Ideal) x0 (ix3 b p q) = inverse (fun p q => x0 (ix3 b p q)) p q := by
  obtain ⟨h0, h1, h2⟩ := see_five x0 b A hA hd
  obtain ⟨e0, e1, e2⟩ := reduced hd q
  unfold inverse
  rw [minor_coe x0 b A hA, det3_coe x0 b A hA, Ideal.div_coe hd, ← EReal.coe_mul, _root_.mul_one_div]
  refine (three_rows (val_main_v133 (F := Ideal) x0) (val_main_v134 (F := Ideal) x0) (val_main_v135 (F := Ideal) x0)
    bcast_S200x3_S200x1x3_0_2 concatenates_S200x1x3_S200x1x3_S200x1x3_S200x3x3_d1 b p q).trans ?_
  match p with
  | ⟨0, _⟩ => exact (tail_of b _ _ h0 q).trans (congrArg _ e0)
  | ⟨1, _⟩ => exact (tail_of b _ _ h1 q).trans (congrArg _ e1)
  | ⟨2, _⟩ => exact (tail_of b _ _ h2 q).trans (congrArg _ e2)

end

end Crystal
-- ==== Proof.Crystal.Posed.lean ====
module

public import proofs.«01_k».proof.Pre_well_posed
public import proofs.«01_k».proof.Proof.Crystal.Block
public import proofs.«01_k».proof.Proof.Crystal.Sight
public import proofs.«01_k».proof.Proof.Crystal.Eliminate

/-! What the precondition says of each crystal: the thirty-second neighbour is nearer than the thirty-third and nearer than the
    bound, the cell is of real numbers, and its determinant is not zero. -/

@[expose] public section

noncomputable section

namespace Crystal

open Idealize.ShloMosaic Idealize.ShloMosaic.ValueIdx Cert.ReferenceIdeal Cert.ReferenceIdeal.Gen Cert.ReferenceIdeal.Read

/-- The shapes of the precondition fit. -/
theorem posedFacts : Cert.Pre_well_posed.Facts := by
  constructor <;> decide

/-! ## The three conditions on whole tables -/

/-- The thirty-three least distances, in order. -/
def tableLeast (X : FVec Ideal S200x50x50 .f32) : FVec Ideal ⟨3, ![200, 50, 33]⟩ .f32 :=
  Host.negf (F := Ideal) (φ := .f32)
    (Host.topK ⟨3, ![200, 50, 33]⟩ 2 (FloatOps.cmpfTotal (F := Ideal) (φ := .f32) .gt) (Host.negf (F := Ideal) (φ := .f32) X) (by decide)).1

/-- One of the least distances of every atom. -/
def tableNth (o : ℕ) (ho : (⟨3, ![200, 50, 33]⟩ : Shape).Slices ![0, 0, o] ⟨3, ![200, 50, 1]⟩) (X : FVec Ideal S200x50x50 .f32) :
    FVec Ideal ⟨2, ![200, 50]⟩ .f32 :=
  shapeCast ⟨2, ![200, 50]⟩ (extractStridedSlice ⟨3, ![200, 50, 1]⟩ ![0, 0, o] (tableLeast X) ho) (by decide)

/-- Whether the neighbours are settled. -/
def tableSettled (X : FVec Ideal S200x50x50 .f32) : IVec ⟨2, ![200, 50]⟩ 1 :=
  andi (cmpf (F := Ideal) (φ := .f32) .olt (tableNth 31 (by decide) X) (tableNth 32 (by decide) X))
    (cmpf (F := Ideal) (φ := .f32) .olt (tableNth 31 (by decide) X)
      (broadcastInDim ⟨2, ![200, 50]⟩ ![] (by decide) (constant S_ .f32 0x4E6E6B28#32)))

/-- Whether the cells are of real numbers. -/
def tableReal (x0 : FVec Ideal S200x3x3 .f32) : IVec S200x3x3 1 :=
  cmpf (F := Ideal) (φ := .f32) .olt (Host.absf (F := Ideal) (φ := .f32) x0)
    (broadcastInDim S200x3x3 ![] (by decide) (constant S_ .f32 0x7F800000#32))

/-- One number of every cell. -/
def tableNumber (o k : ℕ) (ho : S200x3x3.Slices ![0, o, 0] S200x1x3) (hk : S200x3.Slices ![0, k] S200x1)
    (x0 : FVec Ideal S200x3x3 .f32) : FVec Ideal S200 .f32 :=
  shapeCast S200 (extractStridedSlice S200x1 ![0, k]
    (shapeCast S200x3 (extractStridedSlice S200x1x3 ![0, o, 0] x0 ho) shapeCasts_S200x1x3_S200x3) hk) shapeCasts_S200x1_S200

/-- The product of two numbers of every cell. -/
def tableProduct (o k o' k' : ℕ) (ho : S200x3x3.Slices ![0, o, 0] S200x1x3) (hk : S200x3.Slices ![0, k] S200x1)
    (ho' : S200x3x3.Slices ![0, o', 0] S200x1x3) (hk' : S200x3.Slices ![0, k'] S200x1) (x0 : FVec Ideal S200x3x3 .f32) :
    FVec Ideal S200 .f32 := mulf (tableNumber o k ho hk x0) (tableNumber o' k' ho' hk' x0)

/-- The determinants of the cells. -/
def tableDet (x0 : FVec Ideal S200x3x3 .f32) : FVec Ideal S200 .f32 :=
  addf (subf
    (mulf (tableNumber 0 0 (by decide) (by decide) x0) (subf
      (tableProduct 1 1 2 2 (by decide) (by decide) (by decide) (by decide) x0)
      (tableProduct 1 2 2 1 (by decide) (by decide) (by decide) (by decide) x0)))
    (mulf (tableNumber 0 1 (by decide) (by decide) x0) (subf
      (tableProduct 1 0 2 2 (by decide) (by decide) (by decide) (by decide) x0)
      (tableProduct 1 2 2 0 (by decide) (by decide) (by decide) (by decide) x0))))
    (mulf (tableNumber 0 2 (by decide) (by decide) x0) (subf
      (tableProduct 1 0 2 1 (by decide) (by decide) (by decide) (by decide) x0)
      (tableProduct 1 1 2 0 (by decide) (by decide) (by decide) (by decide) x0)))

/-- Whether the cells can be inverted. -/
def tableRegular (x0 : FVec Ideal S200x3x3 .f32) : IVec S200 1 :=
  cmpf (F := Ideal) (φ := .f32) .une (tableDet x0) (broadcastInDim S200 ![] (by decide) (constant S_ .f32 0x00000000#32))

variable (a0 : FVec Ideal S200x3x3 .f32) (a1 : FVec Ideal S10000x3 .f32) (a2 : FVec Ideal S10000x128 .f32) (a3 : IVec S200 32)
  (a4 : FVec Ideal S128x128 .f32) (a5 : FVec Ideal S64x128 .f32) (a6 : FVec Ideal S3x256x128 .f32)
  (a7 : FVec Ideal S3x128 .f32) (a8 : FVec Ideal S3x128x128 .f32) (a9 a10 : FVec Ideal S128x1 .f32)

/-- The precondition is the three conditions. -/
theorem posed_eq : @Cert.Pre_well_posed.fn posedFacts Ideal _ a0 a1 a2 a3 a4 a5 a6 a7 a8 a9 a10
    = (tableSettled (val_main_v25 (F := Ideal) a0 a1), tableReal a0, tableRegular a0) := rfl

/-! ## The conditions at one crystal -/

/-- One of the least distances of an atom. -/
theorem tableNth_apply (o : ℕ) (ho : (⟨3, ![200, 50, 33]⟩ : Shape).Slices ![0, 0, o] ⟨3, ![200, 50, 1]⟩)
    (X : FVec Ideal S200x50x50 .f32) (b : Fin 200) (i : Fin 50) (d : Fin 50 → EReal) (hX : ∀ j, X (ix3 b i j) = d j) (k : Fin 33)
    (hk : k.val = o) : tableNth o ho X (ix2 b i) = d (order d (Fin.castLE (by omega) k)) := by
  unfold tableNth
  refine (shapeCast_apply _ _ (ix2 b i) (ix3 b i (0 : Fin 1)) ?_).trans ?_
  · rw [Shape.rowMajor_val_three, Shape.rowMajor_val_two]
    show (b.val * 50 + i.val) * 1 + 0 = b.val * 50 + i.val
    omega
  refine (extractStridedSlice_apply ![0, 0, o] (tableLeast X) ho (ix3 b i (0 : Fin 1)) (ix3 b i k) fun a => match a with
    | ⟨0, _⟩ => (Nat.zero_add _).symm
    | ⟨1, _⟩ => (Nat.zero_add _).symm
    | ⟨2, _⟩ => by show k.val = o + 0; omega).trans ?_
  unfold tableLeast
  refine (congrArg (fun v : EReal => -v) (greatest_value (K := 33) (by omega) (Host.negf (F := Ideal) (φ := .f32) X) (by decide) b i d
    (fun j => congrArg (fun v : EReal => -v) (hX j)) k)).trans ?_
  exact neg_neg _

/-- A comparison that came out true. -/
theorem of_ofBool (p : Prop) [Decidable p] (h : BitVec.ofBool (decide p) = 1#1) : p := by
  by_contra hp
  rw [decide_eq_false hp] at h
  exact absurd h (by decide)

/-- Two comparisons that both came out true. -/
theorem of_and : ∀ p q : BitVec 1, p &&& q = 1#1 → p = 1#1 ∧ q = 1#1 := by decide

/-- The neighbours of every crystal are settled. -/
theorem posed_near (h : tableSettled (val_main_v25 (F := Ideal) a0 a1) = fun _ => 1#1) (b : Fin 200) :
    (seen a0 a1 a2 a4 a5 a6 a7 a8 a9 a10 b).Near := by
  intro i
  have e := congrFun h (ix2 b i)
  obtain ⟨l, r⟩ := of_and _ _ e
  have d := see_dist a0 a1 a2 a4 a5 a6 a7 a8 a9 a10 b i
  have e31 := tableNth_apply 31 (by decide) (val_main_v25 (F := Ideal) a0 a1) b i _ d 31 rfl
  have e32 := tableNth_apply 32 (by decide) (val_main_v25 (F := Ideal) a0 a1) b i _ d 32 rfl
  have l' := of_ofBool _ l
  have r' := of_ofBool _ r
  rw [e31, e32] at l'
  rw [e31] at r'
  exact ⟨l', r'⟩

/-- The cell of every crystal is of real numbers. -/
theorem posed_real (h : tableReal a0 = fun _ => 1#1) (b : Fin 200) (p q : Fin 3) :
    a0 (ix3 b p q) = (((a0 (ix3 b p q)).toReal : ℝ) : EReal) := by
  have l := of_ofBool _ (congrFun h (ix3 b p q))
  have e : Ideal.ofBits .f32 0x7F800000#32 = ⊤ := by simp [Ideal.ofBits, Ideal.ieee]
  have l' : max (a0 (ix3 b p q)) (-(a0 (ix3 b p q))) < ⊤ := lt_of_lt_of_eq l e
  refine (EReal.coe_toReal ?_ ?_).symm
  · exact ne_of_lt ((le_max_left _ _).trans_lt l')
  · intro e
    rw [e] at l'
    exact absurd l' (by simp)

/-- One number of a cell. -/
theorem tableNumber_apply (o k : ℕ) (ho : S200x3x3.Slices ![0, o, 0] S200x1x3) (hk : S200x3.Slices ![0, k] S200x1) (b : Fin 200)
    (p q : Fin 3) (hp : p.val = o) (hq : q.val = k) : tableNumber o k ho hk a0 (ix1 b) = a0 (ix3 b p q) := by
  unfold tableNumber
  refine (shapeCast_apply _ shapeCasts_S200x1_S200 (ix1 b) (ix2 b (0 : Fin 1)) ?_).trans ?_
  · rw [Shape.rowMajor_val_two, Shape.rowMajor_val_one]
    show b.val * 1 + 0 = b.val
    omega
  refine (extractStridedSlice_apply ![0, k] _ hk (ix2 b (0 : Fin 1)) (ix2 b q) fun a => match a with
    | ⟨0, _⟩ => (Nat.zero_add _).symm
    | ⟨1, _⟩ => by show q.val = k + 0; omega).trans ?_
  exact row_of b o a0 ho p hp q

/-- The determinant of the cell of every crystal is not zero. -/
theorem posed_det (h : tableRegular a0 = fun _ => 1#1) (b : Fin 200) (A : Fin 3 → Fin 3 → ℝ)
    (hA : ∀ p q, a0 (ix3 b p q) = ((A p q : ℝ) : EReal)) : detR A ≠ 0 := by
  have l := of_ofBool _ (congrFun h (ix1 b))
  intro hd
  refine l ?_
  have z : ((0 : ℝ) : EReal) = Ideal.ofBits .f32 0x00000000#32 := EReal.coe_zero.trans Ideal.ofBits_zero_f32.symm
  refine Eq.trans ?_ z
  have n : ∀ (p q : Fin 3) (ho : S200x3x3.Slices ![0, p.val, 0] S200x1x3) (hk : S200x3.Slices ![0, q.val] S200x1),
      tableNumber p.val q.val ho hk a0 (ix1 b) = ((A p q : ℝ) : EReal) :=
    fun p q ho hk => (tableNumber_apply a0 p.val q.val ho hk b p q rfl rfl).trans (hA p q)
  have t : ∀ (p q p' q' : Fin 3) (ho : S200x3x3.Slices ![0, p.val, 0] S200x1x3) (hk : S200x3.Slices ![0, q.val] S200x1)
      (ho' : S200x3x3.Slices ![0, p'.val, 0] S200x1x3) (hk' : S200x3.Slices ![0, q'.val] S200x1),
      tableProduct p.val q.val p'.val q'.val ho hk ho' hk' a0 (ix1 b) = ((A p q * A p' q' : ℝ) : EReal) := by
    intro p q p' q' ho hk ho' hk'
    show tableNumber p.val q.val ho hk a0 (ix1 b) * tableNumber p'.val q'.val ho' hk' a0 (ix1 b) = _
    rw [n, n, ← EReal.coe_mul]
  have s : tableDet a0 (ix1 b) = (((A 0 0 * (A 1 1 * A 2 2 - A 1 2 * A 2 1) - A 0 1 * (A 1 0 * A 2 2 - A 1 2 * A 2 0))
      + A 0 2 * (A 1 0 * A 2 1 - A 1 1 * A 2 0) : ℝ) : EReal) := by
    rw [EReal.coe_add, EReal.coe_sub, EReal.coe_mul, EReal.coe_mul, EReal.coe_mul, EReal.coe_sub, EReal.coe_sub, EReal.coe_sub]
    have m : ∀ u u' v v' w w' : EReal, u = u' → v = v' → w = w' → u * (v - w) = u' * (v' - w') := by
      intro u u' v v' w w' hu hv hw
      rw [hu, hv, hw]
    exact congrArg₂ (· + ·) (congrArg₂ (· - ·)
      (m _ _ _ _ _ _ (n 0 0 _ _) (t 1 1 2 2 _ _ _ _) (t 1 2 2 1 _ _ _ _)) (m _ _ _ _ _ _ (n 0 1 _ _) (t 1 0 2 2 _ _ _ _) (t 1 2 2 0 _ _ _ _)))
      (m _ _ _ _ _ _ (n 0 2 _ _) (t 1 0 2 1 _ _ _ _) (t 1 1 2 0 _ _ _ _))
  refine s.trans (congrArg _ ?_)
  have hd' : (A 0 0 * (A 1 1 * A 2 2 - A 1 2 * A 2 1) + A 0 1 * (A 1 2 * A 2 0 - A 1 0 * A 2 2))
      + A 0 2 * (A 1 0 * A 2 1 - A 1 1 * A 2 0) = 0 := hd
  linear_combination hd'

end Crystal
-- ==== Proof.Crystal.Travel.lean ====
module

public import proofs.«01_k».proof.Proof.Crystal.Sight
public import proofs.«01_k».proof.Proof.Crystal.Prefix

/-! The rounds of the reference, and its three results. -/

@[expose] public section

noncomputable section

namespace Crystal

open Idealize.ShloMosaic Idealize.ShloMosaic.ValueIdx Cert.ReferenceIdeal Cert.ReferenceIdeal.Gen Cert.ReferenceIdeal.Read

/-! ## A round, for one crystal -/

section
variable (D : Data) (b : Fin 200) (t : Fin 3)
  (H : FVec Ideal S200x50x128 .f32) (hH : ∀ i f, H (ix3 b i f) = D.state t i f)
  (n : IVec S200x50x32x1 32) (hn : ∀ i k, n (ix4 b i k 0) = BitVec.ofNat 32 (D.nb i k).val)
  (e : FVec Ideal S200x50x32x128 .f32) (he : ∀ i k f, e (ix4 b i k f) = D.emb i (D.nb i k) f)
  (W : FVec Ideal S256x128 .f32) (hW : ∀ r f, W (ix2 r f) = D.wmsg t r f)
  (B : FVec Ideal S128 .f32) (hB : ∀ f, B (ix1 f) = D.bmsg t f)
  (M : FVec Ideal S200x50x32x128 .f32) (hM : ∀ i k f, M (ix4 b i k f) = D.message t (D.state t) i (D.nb i k) f)
  (U : FVec Ideal S128x128 .f32) (hU : ∀ g f, U (ix2 g f) = D.wupd t g f)
  (w : FVec Ideal S128x1 .f32) (u v : FVec Ideal S200x50x32x3 .f32)
  (hu : ∀ i k c, u (ix4 b i k c) = D.unit i (D.nb i k) c) (hv : ∀ i k c, v (ix4 b i k c) = D.vec i (D.nb i k) c)

include hH hn he hW hB in
/-- The messages of a round. -/
theorem round_message (i : Fin 50) (k : Fin 32) (f : Fin 128) :
    tableSil (tableSum H n e W B) (ix4 b i k f) = D.message t (D.state t) i (D.nb i k) f := by
  rw [tableMessage_apply H n e W B b i k (D.nb i k) (hn i k) f]
  simp only [hH, he, hW, hB]
  rfl

include hH hM hU in
/-- The states after a round. -/
theorem round_update (i : Fin 50) (f : Fin 128) : tableUpdate H M U (ix3 b i f) = D.update t (D.state t) i f := by
  rw [tableUpdate_apply]
  simp only [hH, hM, hU]
  rfl

include hM hu in
/-- The pulls of a round. -/
theorem round_pull (i : Fin 50) (k : Fin 32) (c : Fin 3) :
    tablePull M w u (ix4 b i k c) = D.pull (fun f => w (ix2 f 0)) t i (D.nb i k) * D.unit i (D.nb i k) c := by
  rw [tablePull_apply]
  simp only [hM, hu]
  rfl

include hM hu in
/-- The places after a round. -/
theorem round_step (x : FVec Ideal S200x50x3 .f32) (X : Fin 50 → Fin 3 → EReal) (hx : ∀ i c, x (ix3 b i c) = X i c)
    (hw : D.wf = fun f => w (ix2 f 0)) (a : FVec Ideal S200x3x3 .f32) (ha : ∀ p q, a (ix3 b p q) = D.inv p q)
    (i : Fin 50) (c : Fin 3) : tableStep x (tablePull M w u) a (ix3 b i c) = D.step t X i c := by
  rw [tableStep_apply]
  simp only [round_pull D b t M hM w u hu, hx, ha]
  unfold Data.step Data.move
  rw [hw]

include hM hu hv in
/-- The tension of a round. -/
theorem round_tension (hw : D.ws = fun f => w (ix2 f 0)) (c d : Fin 3) :
    tableTension (tablePull M w u) v (ix3 b c d) = D.tension t c d := by
  rw [tableTension_apply]
  simp only [round_pull D b t M hM w u hu, hv]
  unfold Data.tension
  rw [hw]

end

/-! ## The rounds of the reference -/

variable (a0 : FVec Ideal S200x3x3 .f32) (a1 : FVec Ideal S10000x3 .f32) (a2 : FVec Ideal S10000x128 .f32)
  (a4 : FVec Ideal S128x128 .f32) (a5 : FVec Ideal S64x128 .f32) (a6 : FVec Ideal S3x256x128 .f32)
  (a7 : FVec Ideal S3x128 .f32) (a8 : FVec Ideal S3x128x128 .f32) (a9 a10 : FVec Ideal S128x1 .f32)

/-- The message matrices of the rounds. -/
theorem see_wmsg (r : Fin 256) (f : Fin 128) :
    val_main_v144 (F := Ideal) a6 (ix2 r f) = a6 (ix3 0 r f) ∧ val_main_v176 (F := Ideal) a6 (ix2 r f) = a6 (ix3 1 r f)
      ∧ val_main_v208 (F := Ideal) a6 (ix2 r f) = a6 (ix3 2 r f) := by
  have hr : (r.val * 128 + f.val) / 128 % 256 = r.val := by omega
  have hf : (r.val * 128 + f.val) % 128 = f.val := by omega
  rw [val_main_v144_apply, val_main_v143_apply, val_main_v176_apply, val_main_v175_apply, val_main_v208_apply,
    val_main_v207_apply]
  refine ⟨congrArg a6 (funext fun a => Fin.ext ?_), congrArg a6 (funext fun a => Fin.ext ?_),
    congrArg a6 (funext fun a => Fin.ext ?_)⟩ <;>
  match a with
  | ⟨0, _⟩ => rfl
  | ⟨1, _⟩ => exact hr
  | ⟨2, _⟩ => exact hf

/-- The message offsets of the rounds. -/
theorem see_bmsg (f : Fin 128) :
    val_main_v147 (F := Ideal) a7 (ix1 f) = a7 (ix2 0 f) ∧ val_main_v179 (F := Ideal) a7 (ix1 f) = a7 (ix2 1 f)
      ∧ val_main_v211 (F := Ideal) a7 (ix1 f) = a7 (ix2 2 f) := by
  have hf : f.val % 128 = f.val := by omega
  rw [val_main_v147_apply, val_main_v146_apply, val_main_v179_apply, val_main_v178_apply, val_main_v211_apply,
    val_main_v210_apply]
  refine ⟨congrArg a7 (funext fun a => Fin.ext ?_), congrArg a7 (funext fun a => Fin.ext ?_),
    congrArg a7 (funext fun a => Fin.ext ?_)⟩ <;>
  match a with
  | ⟨0, _⟩ => rfl
  | ⟨1, _⟩ => exact hf

/-- The update matrices of the rounds. -/
theorem see_wupd (g f : Fin 128) :
    val_main_v154 (F := Ideal) a8 (ix2 g f) = a8 (ix3 0 g f)
      ∧ val_main_v186 (F := Ideal) a8 (ix2 g f) = a8 (ix3 1 g f) := by
  have hr : (g.val * 128 + f.val) / 128 % 128 = g.val := by omega
  have hf : (g.val * 128 + f.val) % 128 = f.val := by omega
  rw [val_main_v154_apply, val_main_v153_apply, val_main_v186_apply, val_main_v185_apply]
  refine ⟨congrArg a8 (funext fun a => Fin.ext ?_), congrArg a8 (funext fun a => Fin.ext ?_)⟩ <;>
  match a with
  | ⟨0, _⟩ => rfl
  | ⟨1, _⟩ => exact hr
  | ⟨2, _⟩ => exact hf

/-- The messages of the first round. -/
theorem see_message0 (b : Fin 200) (i : Fin 50) (k : Fin 32) (f : Fin 128) :
    val_main_v151 (F := Ideal) a0 a1 a2 a4 a5 a6 a7 (ix4 b i k f)
      = (seen a0 a1 a2 a4 a5 a6 a7 a8 a9 a10 b).message 0 ((seen a0 a1 a2 a4 a5 a6 a7 a8 a9 a10 b).state 0) i
          ((seen a0 a1 a2 a4 a5 a6 a7 a8 a9 a10 b).nb i k) f :=
  round_message (seen a0 a1 a2 a4 a5 a6 a7 a8 a9 a10 b) b 0 (val_main_v47 (F := Ideal) a2 a4)
    (see_start a0 a1 a2 a4 a5 a6 a7 a8 a9 a10 b) (val_main_call10_v0 (F := Ideal) a0 a1)
    (see_index2 a0 a1 a2 a4 a5 a6 a7 a8 a9 a10 b) (val_main_v46 (F := Ideal) a0 a1 a5)
    (see_emb a0 a1 a2 a4 a5 a6 a7 a8 a9 a10 b) (val_main_v144 (F := Ideal) a6) (fun r f => (see_wmsg a6 r f).1)
    (val_main_v147 (F := Ideal) a7) (fun f => (see_bmsg a7 f).1) i k f

/-- The states after the first round. -/
theorem see_state1 (b : Fin 200) (i : Fin 50) (f : Fin 128) :
    val_main_v157 (F := Ideal) a0 a1 a2 a4 a5 a6 a7 a8 (ix3 b i f)
      = (seen a0 a1 a2 a4 a5 a6 a7 a8 a9 a10 b).state 1 i f :=
  round_update (seen a0 a1 a2 a4 a5 a6 a7 a8 a9 a10 b) b 0 (val_main_v47 (F := Ideal) a2 a4)
    (see_start a0 a1 a2 a4 a5 a6 a7 a8 a9 a10 b) (val_main_v151 (F := Ideal) a0 a1 a2 a4 a5 a6 a7)
    (see_message0 a0 a1 a2 a4 a5 a6 a7 a8 a9 a10 b) (val_main_v154 (F := Ideal) a8) (fun g f => (see_wupd a8 g f).1) i f

/-- The messages of the second round. -/
theorem see_message1 (b : Fin 200) (i : Fin 50) (k : Fin 32) (f : Fin 128) :
    val_main_v183 (F := Ideal) a0 a1 a2 a4 a5 a6 a7 a8 (ix4 b i k f)
      = (seen a0 a1 a2 a4 a5 a6 a7 a8 a9 a10 b).message 1 ((seen a0 a1 a2 a4 a5 a6 a7 a8 a9 a10 b).state 1) i
          ((seen a0 a1 a2 a4 a5 a6 a7 a8 a9 a10 b).nb i k) f :=
  round_message (seen a0 a1 a2 a4 a5 a6 a7 a8 a9 a10 b) b 1 (val_main_v157 (F := Ideal) a0 a1 a2 a4 a5 a6 a7 a8)
    (see_state1 a0 a1 a2 a4 a5 a6 a7 a8 a9 a10 b) (val_main_call10_v0 (F := Ideal) a0 a1)
    (see_index2 a0 a1 a2 a4 a5 a6 a7 a8 a9 a10 b) (val_main_v46 (F := Ideal) a0 a1 a5)
    (see_emb a0 a1 a2 a4 a5 a6 a7 a8 a9 a10 b) (val_main_v176 (F := Ideal) a6) (fun r f => (see_wmsg a6 r f).2.1)
    (val_main_v179 (F := Ideal) a7) (fun f => (see_bmsg a7 f).2.1) i k f

/-- The states after the second round. -/
theorem see_state2 (b : Fin 200) (i : Fin 50) (f : Fin 128) :
    val_main_v189 (F := Ideal) a0 a1 a2 a4 a5 a6 a7 a8 (ix3 b i f)
      = (seen a0 a1 a2 a4 a5 a6 a7 a8 a9 a10 b).state 2 i f :=
  round_update (seen a0 a1 a2 a4 a5 a6 a7 a8 a9 a10 b) b 1 (val_main_v157 (F := Ideal) a0 a1 a2 a4 a5 a6 a7 a8)
    (see_state1 a0 a1 a2 a4 a5 a6 a7 a8 a9 a10 b) (val_main_v183 (F := Ideal) a0 a1 a2 a4 a5 a6 a7 a8)
    (see_message1 a0 a1 a2 a4 a5 a6 a7 a8 a9 a10 b) (val_main_v186 (F := Ideal) a8) (fun g f => (see_wupd a8 g f).2) i f

/-- The messages of the third round. -/
theorem see_message2 (b : Fin 200) (i : Fin 50) (k : Fin 32) (f : Fin 128) :
    val_main_v215 (F := Ideal) a0 a1 a2 a4 a5 a6 a7 a8 (ix4 b i k f)
      = (seen a0 a1 a2 a4 a5 a6 a7 a8 a9 a10 b).message 2 ((seen a0 a1 a2 a4 a5 a6 a7 a8 a9 a10 b).state 2) i
          ((seen a0 a1 a2 a4 a5 a6 a7 a8 a9 a10 b).nb i k) f :=
  round_message (seen a0 a1 a2 a4 a5 a6 a7 a8 a9 a10 b) b 2 (val_main_v189 (F := Ideal) a0 a1 a2 a4 a5 a6 a7 a8)
    (see_state2 a0 a1 a2 a4 a5 a6 a7 a8 a9 a10 b) (val_main_call10_v0 (F := Ideal) a0 a1)
    (see_index2 a0 a1 a2 a4 a5 a6 a7 a8 a9 a10 b) (val_main_v46 (F := Ideal) a0 a1 a5)
    (see_emb a0 a1 a2 a4 a5 a6 a7 a8 a9 a10 b) (val_main_v208 (F := Ideal) a6) (fun r f => (see_wmsg a6 r f).2.2)
    (val_main_v211 (F := Ideal) a7) (fun f => (see_bmsg a7 f).2.2) i k f

section
variable (b : Fin 200) (hinv : ∀ p q, val_main_v139 (F := Ideal) a0 (ix3 b p q) = inverse (fun p q => a0 (ix3 b p q)) p q)

include hinv in
/-- The places after the first round. -/
theorem see_place0 (i : Fin 50) (c : Fin 3) :
    val_main_v165 (F := Ideal) a0 a1 a2 a4 a5 a6 a7 a9 (ix3 b i c)
      = (seen a0 a1 a2 a4 a5 a6 a7 a8 a9 a10 b).place 0 i c :=
  round_step (seen a0 a1 a2 a4 a5 a6 a7 a8 a9 a10 b) b 0 (val_main_v151 (F := Ideal) a0 a1 a2 a4 a5 a6 a7)
    (see_message0 a0 a1 a2 a4 a5 a6 a7 a8 a9 a10 b) a9 (val_main_v34 (F := Ideal) a0 a1)
    (see_unit a0 a1 a2 a4 a5 a6 a7 a8 a9 a10 b) (val_main_v0 (F := Ideal) a1) (fun i c => a1 (ix2 (atom b i) c))
    (see_place a1 b) rfl (val_main_v139 (F := Ideal) a0) hinv i c

include hinv in
/-- The places after the second round. -/
theorem see_place1 (i : Fin 50) (c : Fin 3) :
    val_main_v197 (F := Ideal) a0 a1 a2 a4 a5 a6 a7 a8 a9 (ix3 b i c)
      = (seen a0 a1 a2 a4 a5 a6 a7 a8 a9 a10 b).place 1 i c :=
  round_step (seen a0 a1 a2 a4 a5 a6 a7 a8 a9 a10 b) b 1 (val_main_v183 (F := Ideal) a0 a1 a2 a4 a5 a6 a7 a8)
    (see_message1 a0 a1 a2 a4 a5 a6 a7 a8 a9 a10 b) a9 (val_main_v34 (F := Ideal) a0 a1)
    (see_unit a0 a1 a2 a4 a5 a6 a7 a8 a9 a10 b) (val_main_v165 (F := Ideal) a0 a1 a2 a4 a5 a6 a7 a9)
    ((seen a0 a1 a2 a4 a5 a6 a7 a8 a9 a10 b).place 0)
    (see_place0 a0 a1 a2 a4 a5 a6 a7 a8 a9 a10 b hinv) rfl (val_main_v139 (F := Ideal) a0) hinv i c

include hinv in
/-- The places after the third round. -/
theorem see_place2 (i : Fin 50) (c : Fin 3) :
    val_main_v229 (F := Ideal) a0 a1 a2 a4 a5 a6 a7 a8 a9 (ix3 b i c)
      = (seen a0 a1 a2 a4 a5 a6 a7 a8 a9 a10 b).place 2 i c :=
  round_step (seen a0 a1 a2 a4 a5 a6 a7 a8 a9 a10 b) b 2 (val_main_v215 (F := Ideal) a0 a1 a2 a4 a5 a6 a7 a8)
    (see_message2 a0 a1 a2 a4 a5 a6 a7 a8 a9 a10 b) a9 (val_main_v34 (F := Ideal) a0 a1)
    (see_unit a0 a1 a2 a4 a5 a6 a7 a8 a9 a10 b) (val_main_v197 (F := Ideal) a0 a1 a2 a4 a5 a6 a7 a8 a9)
    ((seen a0 a1 a2 a4 a5 a6 a7 a8 a9 a10 b).place 1)
    (see_place1 a0 a1 a2 a4 a5 a6 a7 a8 a9 a10 b hinv) rfl (val_main_v139 (F := Ideal) a0) hinv i c

include hinv in
/-- The trajectory. -/
theorem see_trajectory (t : Fin 3) (i : Fin 50) (c : Fin 3) :
    val_main_v244 (F := Ideal) a0 a1 a2 a4 a5 a6 a7 a8 a9 (ix4 t b i c)
      = (seen a0 a1 a2 a4 a5 a6 a7 a8 a9 a10 b).place t i c := by
  unfold val_main_v244
  refine (concatenate_ofFn_apply (t := S3x200x50x3) (s₁ := S1x200x50x3) 0 ![val_main_v241 (F := Ideal) a0 a1 a2 a4 a5 a6 a7 a9,
    val_main_v242 (F := Ideal) a0 a1 a2 a4 a5 a6 a7 a8 a9, val_main_v243 (F := Ideal) a0 a1 a2 a4 a5 a6 a7 a8 a9] _ rfl 1 rfl
    (ix4 t b i c) t (Nat.div_one _) (ix4 (0 : Fin 1) b i c) (Nat.mod_one _).symm (fun a ha => match a with
      | ⟨0, _⟩ => absurd rfl ha
      | ⟨1, _⟩ => rfl
      | ⟨2, _⟩ => rfl
      | ⟨3, _⟩ => rfl)).trans ?_
  match t with
  | ⟨0, _⟩ =>
    exact (val_main_v241_apply _ _ _ _ _ _ _ _ _).trans ((congrArg _ (eq_ix3 _)).trans
      (see_place0 a0 a1 a2 a4 a5 a6 a7 a8 a9 a10 b hinv i c))
  | ⟨1, _⟩ =>
    exact (val_main_v242_apply _ _ _ _ _ _ _ _ _ _).trans ((congrArg _ (eq_ix3 _)).trans
      (see_place1 a0 a1 a2 a4 a5 a6 a7 a8 a9 a10 b hinv i c))
  | ⟨2, _⟩ =>
    exact (val_main_v243_apply _ _ _ _ _ _ _ _ _ _).trans ((congrArg _ (eq_ix3 _)).trans
      (see_place2 a0 a1 a2 a4 a5 a6 a7 a8 a9 a10 b hinv i c))

end

/-- The sum of the tensions. -/
theorem see_tension (b : Fin 200) (c d : Fin 3) :
    val_main_v236 (F := Ideal) a0 a1 a2 a4 a5 a6 a7 a8 a10 (ix3 b c d)
      = ((seen a0 a1 a2 a4 a5 a6 a7 a8 a9 a10 b).tension 0 c d + (seen a0 a1 a2 a4 a5 a6 a7 a8 a9 a10 b).tension 1 c d)
        + (seen a0 a1 a2 a4 a5 a6 a7 a8 a9 a10 b).tension 2 c d := by
  have e0 : val_main_v171 (F := Ideal) a0 a1 a2 a4 a5 a6 a7 a10 (ix3 b c d) = _ :=
    round_tension (seen a0 a1 a2 a4 a5 a6 a7 a8 a9 a10 b) b 0 (val_main_v151 (F := Ideal) a0 a1 a2 a4 a5 a6 a7)
      (see_message0 a0 a1 a2 a4 a5 a6 a7 a8 a9 a10 b) a10 (val_main_v34 (F := Ideal) a0 a1)
      (val_main_v29 (F := Ideal) a0 a1) (see_unit a0 a1 a2 a4 a5 a6 a7 a8 a9 a10 b)
      (see_vec_near a0 a1 a2 a4 a5 a6 a7 a8 a9 a10 b) rfl c d
  have e1 : val_main_v203 (F := Ideal) a0 a1 a2 a4 a5 a6 a7 a8 a10 (ix3 b c d) = _ :=
    round_tension (seen a0 a1 a2 a4 a5 a6 a7 a8 a9 a10 b) b 1 (val_main_v183 (F := Ideal) a0 a1 a2 a4 a5 a6 a7 a8)
      (see_message1 a0 a1 a2 a4 a5 a6 a7 a8 a9 a10 b) a10 (val_main_v34 (F := Ideal) a0 a1)
      (val_main_v29 (F := Ideal) a0 a1) (see_unit a0 a1 a2 a4 a5 a6 a7 a8 a9 a10 b)
      (see_vec_near a0 a1 a2 a4 a5 a6 a7 a8 a9 a10 b) rfl c d
  have e2 : val_main_v235 (F := Ideal) a0 a1 a2 a4 a5 a6 a7 a8 a10 (ix3 b c d) = _ :=
    round_tension (seen a0 a1 a2 a4 a5 a6 a7 a8 a9 a10 b) b 2 (val_main_v215 (F := Ideal) a0 a1 a2 a4 a5 a6 a7 a8)
      (see_message2 a0 a1 a2 a4 a5 a6 a7 a8 a9 a10 b) a10 (val_main_v34 (F := Ideal) a0 a1)
      (val_main_v29 (F := Ideal) a0 a1) (see_unit a0 a1 a2 a4 a5 a6 a7 a8 a9 a10 b)
      (see_vec_near a0 a1 a2 a4 a5 a6 a7 a8 a9 a10 b) rfl c d
  rw [val_main_v236_apply, val_main_v204_apply, val_main_v172_apply, e0, e1, e2]
  refine congrArg (· + _) (congrArg (· + _) ?_)
  rw [val_main_v140_apply, val_main_cst_7_apply]
  exact (congrArg (· + _) Ideal.ofBits_zero_f32).trans (zero_add _)

/-- The stress. -/
theorem see_stress (b : Fin 200) (c d : Fin 3) :
    val_main_v240 (F := Ideal) a0 a1 a2 a4 a5 a6 a7 a8 a10 (ix3 b c d)
      = (seen a0 a1 a2 a4 a5 a6 a7 a8 a9 a10 b).stress c d := by
  have e : val_main_v237 (F := Ideal) a0 a1 a2 a4 a5 a6 a7 a8 a10 (ix3 b c d)
      = val_main_v236 (F := Ideal) a0 a1 a2 a4 a5 a6 a7 a8 a10 (ix3 b d c) := by
    rw [val_main_v237_apply]
    exact congrArg _ (eq_ix3 _)
  rw [val_main_v240_apply, val_main_v239_apply, val_main_cst_14_apply, val_main_v238_apply, e,
    see_tension a0 a1 a2 a4 a5 a6 a7 a8 a9 a10, see_tension a0 a1 a2 a4 a5 a6 a7 a8 a9 a10]
  rfl

end Crystal
-- ==== Proof.Crystal.Refer.lean ====
module

public import proofs.«01_k».proof.Proof.Gen.ReferenceIdeal.Run
public import proofs.«01_k».proof.Proof.Crystal.Travel
public import proofs.«01_k».proof.Proof.Crystal.Eliminate

/-! The run of the reference, its results as functions of the crystals as launched. -/

@[expose] public section

noncomputable section

namespace Crystal

open Idealize.ShloMosaic Idealize.ShloMosaic.ValueIdx Cert.ReferenceIdeal Cert.ReferenceIdeal.Gen Cert.ReferenceIdeal.Read
open Idealize.ShloMosaic.TcCoe Idealize.SL.Sem Idealize.ShloMosaic.StableHlo

section
variable (a0 : FVec Ideal S200x3x3 .f32) (a1 : FVec Ideal S10000x3 .f32) (a2 : FVec Ideal S10000x128 .f32)
  (a4 : FVec Ideal S128x128 .f32) (a5 : FVec Ideal S64x128 .f32) (a6 : FVec Ideal S3x256x128 .f32)
  (a7 : FVec Ideal S3x128 .f32) (a8 : FVec Ideal S3x128x128 .f32) (a9 a10 : FVec Ideal S128x1 .f32)
  (hinv : ∀ b p q, val_main_v139 (F := Ideal) a0 (ix3 b p q) = inverse (fun p q => a0 (ix3 b p q)) p q)

include hinv in
/-- The whole array of places. -/
theorem whole_places : val_main_v229 (F := Ideal) a0 a1 a2 a4 a5 a6 a7 a8 a9
    = fun y : S200x50x3.Idx => (seen a0 a1 a2 a4 a5 a6 a7 a8 a9 a10 (y 0)).place 2 (y 1) (y 2) :=
  funext fun y => (congrArg _ (eq_ix3 y)).trans
    (see_place2 a0 a1 a2 a4 a5 a6 a7 a8 a9 a10 (y 0) (hinv (y 0)) (y 1) (y 2))

include hinv in
/-- The whole trajectory. -/
theorem whole_trajectory : val_main_v244 (F := Ideal) a0 a1 a2 a4 a5 a6 a7 a8 a9
    = fun y : S3x200x50x3.Idx => (seen a0 a1 a2 a4 a5 a6 a7 a8 a9 a10 (y 1)).place (y 0) (y 2) (y 3) :=
  funext fun y => (congrArg _ (eq_ix4 y)).trans
    (see_trajectory a0 a1 a2 a4 a5 a6 a7 a8 a9 a10 (y 1) (hinv (y 1)) (y 0) (y 2) (y 3))

/-- The whole array of stresses. -/
theorem whole_stress : val_main_v240 (F := Ideal) a0 a1 a2 a4 a5 a6 a7 a8 a10
    = fun y : S200x3x3.Idx => (seen a0 a1 a2 a4 a5 a6 a7 a8 a9 a10 (y 0)).stress (y 1) (y 2) :=
  funext fun y => (congrArg _ (eq_ix3 y)).trans (see_stress a0 a1 a2 a4 a5 a6 a7 a8 a9 a10 (y 0) (y 1) (y 2))

end

variable (m : (ℓ : Loc nD τ sig) → Buf (Elt Ideal) ℓ) (ρ : Dev nD → PrngReg)

/-- The crystals of the arrays as launched. -/
def referred (c : Dev nD) (b : Fin 200) : Data :=
  given (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) b

/-- The run, when every cell can be inverted. -/
theorem reference_run (hinv : ∀ (c : Dev nD) b p q, val_main_v139 (F := Ideal) (m ((c : Thread nD τ).loc main_arg0)) (ix3 b p q)
      = inverse (fun p q => (m ((c : Thread nD τ).loc main_arg0) : FVec Ideal S200x3x3 .f32) (ix3 b p q)) p q) :
    θ_run defs (onTc (τ := τ) (main (F := Ideal))) ⟨m, fun _ => 0, ρ⟩ (fun r => ∀ c : Dev nD,
      r.2.mem ((c.tc : Thread nD τ).loc main_v229) = (fun y : S200x50x3.Idx => (referred m c (y 0)).place 2 (y 1) (y 2))
      ∧ r.2.mem ((c.tc : Thread nD τ).loc main_v244)
        = (fun y : S3x200x50x3.Idx => (referred m c (y 1)).place (y 0) (y 2) (y 3))
      ∧ r.2.mem ((c.tc : Thread nD τ).loc main_v240) = (fun y : S200x3x3.Idx => (referred m c (y 0)).stress (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => by
    obtain ⟨h0, h1, h2, h⟩ := h c
    refine ⟨h0.trans ((val_main_v229_eq (launchContents m c)).trans ?_), h1.trans ((val_main_v244_eq (launchContents m c)).trans ?_),
      h2.trans ((val_main_v240_eq (launchContents m c)).trans ?_), h⟩
    · exact whole_places _ _ _ _ _ _ _ _ _ (m ((c : Thread nD τ).loc main_arg10)) (hinv c)
    · exact whole_trajectory _ _ _ _ _ _ _ _ _ (m ((c : Thread nD τ).loc main_arg10)) (hinv c)
    · exact whole_stress _ _ _ _ _ _ _ _ (m ((c : Thread nD τ).loc main_arg9)) _)
    (Cert.ReferenceIdeal.Value.run (F := Ideal) m ρ)

end Crystal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Crystal.Final
public import proofs.«01_k».proof.Proof.Crystal.Posed
public import proofs.«01_k».proof.Proof.Crystal.Refer
public import Idealize.ShloMosaic.Adequacy
public import Idealize.ShloMosaic.Init

@[expose] public section

noncomputable section

namespace Cert.Proof

open Idealize.ShloMosaic Idealize.ShloMosaic.ValueIdx Idealize.SL.Sem

/-- The reference ends with its arguments unchanged. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The kernel and the reference have equal results. -/
theorem equal_results : Cert.algebraic_KernelIdeal_ReferenceIdeal_pre_well_posed (hKernelIdeal := Cert.KernelIdeal.Gen.facts)
    (hReferenceIdeal := Cert.ReferenceIdeal.Gen.facts) (hPre_well_posed := Crystal.posedFacts) := by
  intro m g m' g' hp hm
  refine ⟨fun c => fun y : Cert.KernelIdeal.S200x50x3.Idx => (Crystal.launched m c (y 0)).place 2 (y 1) (y 2),
    fun c => fun y : Cert.KernelIdeal.S3x200x50x3.Idx => (Crystal.launched m c (y 1)).place (y 0) (y 2) (y 3),
    fun c => fun y : Cert.KernelIdeal.S200x3x3.Idx => (Crystal.launched m c (y 0)).stress (y 1) (y 2), ?_, ?_⟩
  · refine Crystal.kernel_run m g fun c b => ?_
    have h := (hp c).1
    rw [Crystal.posed_eq] at h
    exact Crystal.posed_near _ _ _ _ _ _ _ _ _ _ h b
  · have e : ∀ c b, Crystal.referred m' c b = Crystal.launched m c b := by
      intro c b
      obtain ⟨h0, h1, h2, _, h4, h5, h6, h7, h8, h9, h10⟩ := hm c
      unfold Crystal.referred Crystal.launched
      rw [h0, h1, h2, h4, h5, h6, h7, h8, h9, h10]
    refine (θ_run Cert.ReferenceIdeal.defs _ _).mono (fun r h c => ?_) (Crystal.reference_run m' g' fun c b p q => ?_)
    · obtain ⟨r0, r1, r2, k⟩ := h c
      refine ⟨r0.trans ?_, r1.trans ?_, r2.trans ?_, k⟩
      · exact funext fun y => congrArg (fun D : Crystal.Data => D.place 2 (y 1) (y 2)) (e c (y 0))
      · exact funext fun y => congrArg (fun D : Crystal.Data => D.place (y 0) (y 2) (y 3)) (e c (y 1))
      · exact funext fun y => congrArg (fun D : Crystal.Data => D.stress (y 1) (y 2)) (e c (y 0))
    · have h := hp c
      rw [Crystal.posed_eq] at h
      have h0 := (hm c).1
      rw [h0]
      have real := Crystal.posed_real _ h.2.1 b
      exact Crystal.see_inverse _ b _ real (Crystal.posed_det _ h.2.2 b _ real) p q

/-- Everything claimed. -/
theorem claim : Cert.Claim :=
  ⟨Cert.Kernel.Gen.facts, Cert.KernelIdeal.Gen.facts, Cert.ReferenceIdeal.Gen.facts, Crystal.posedFacts,
    fun m ρ _ => Cert.Kernel.Gen.frame m ρ, fun m ρ _ => Cert.KernelIdeal.Gen.frame m ρ, fun m ρ _ => Cert.KernelIdeal.Gen.frame m ρ,
    frame_reference, fun m ρ _ => frame_reference m ρ (by exact trivial),
    IdealRules.named_const.statement Cert.KernelIdeal.κ "step" .f32 0x3DA28A29#32 ((5 / 63 : ℝ) : EReal) rfl, equal_results⟩

end Cert.Proof

end
